-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S4x1024x1024 : Shape := ⟨3, ![4, 1024, 1024]⟩
abbrev S3x512x2048 : Shape := ⟨3, ![3, 512, 2048]⟩
abbrev S6 : Shape := ⟨1, ![6]⟩
abbrev S_ : Shape := ⟨0, ![]⟩
abbrev S3 : Shape := ⟨1, ![3]⟩
abbrev S1x1024x1024 : Shape := ⟨3, ![1, 1024, 1024]⟩
abbrev S1024x1024 : Shape := ⟨2, ![1024, 1024]⟩
abbrev S1 : Shape := ⟨1, ![1]⟩
abbrev S1x1024x512 : Shape := ⟨3, ![1, 1024, 512]⟩
abbrev S1024x512 : Shape := ⟨2, ![1024, 512]⟩
abbrev S1x512x2048 : Shape := ⟨3, ![1, 512, 2048]⟩
abbrev S512x2048 : Shape := ⟨2, ![512, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S1024x8192, .f32⟩
  | .local _ .vmem, ⟨1, _⟩ => ⟨S4x1024x1024, .f32⟩
  | .local _ .vmem, ⟨2, _⟩ => ⟨S3x512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v43 : BitVec 32 := Scalar.muli v2 c1024_i32
  let c0_i32_31 : BitVec 32 := 0#32
  ![v43.toNat, 0]
def k0_off2 (d0 : Dev nD) (c1_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.addi v2 c1_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1024_i32_39 : BitVec 32 := 1024#32
  let v58 : BitVec 32 := Scalar.muli v57 c1024_i32_39
  let c0_i32_47 : BitVec 32 := 0#32
  ![v58.toNat, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v47 : BitVec 32 := Scalar.addi v2 c1_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1_i32_43 : BitVec 32 := 1#32
  let v59 : BitVec 32 := Scalar.muli v57 c1_i32_43
  let v60 : BitVec 32 := Scalar.addi c0_i32_44 v59
  v60.toNat
def k0_off3 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c1_i32_48
  let c4_i32_49 : BitVec 32 := 4#32
  let c0_i32_50 : BitVec 32 := 0#32
  let v69 : BitVec 1 := Scalar.cmpi .eq c4_i32_49 c0_i32_50
  let c1_i32_51 : BitVec 32 := 1#32
  let v70 : BitVec 32 := Scalar.select v69 c1_i32_51 c4_i32_49
  let v71 : BitVec 32 := Scalar.remsi v68 v70
  let c0_i32_53 : BitVec 32 := 0#32
  let v73 : BitVec 1 := Scalar.cmpi .slt v71 c0_i32_53
  let c0_i32_54 : BitVec 32 := 0#32
  let v74 : BitVec 1 := Scalar.cmpi .slt v70 c0_i32_54
  let v75 : BitVec 1 := Scalar.xori v73 v74
  let c0_i32_52 : BitVec 32 := 0#32
  let v72 : BitVec 1 := Scalar.cmpi .ne v71 c0_i32_52
  let v76 : BitVec 1 := Scalar.andi v75 v72
  let v77 : BitVec 32 := Scalar.addi v71 v70
  let v78 : BitVec 32 := Scalar.select v76 v77 v71
  let c1024_i32_55 : BitVec 32 := 1024#32
  let v79 : BitVec 32 := Scalar.muli v78 c1024_i32_55
  let c512_i32_62 : BitVec 32 := 512#32
  ![v79.toNat, 512]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v68 : BitVec 32 := Scalar.addi v2 c1_i32_48
  let c4_i32_49 : BitVec 32 := 4#32
  let c0_i32_50 : BitVec 32 := 0#32
  let v69 : BitVec 1 := Scalar.cmpi .eq c4_i32_49 c0_i32_50
  let c1_i32_51 : BitVec 32 := 1#32
  let v70 : BitVec 32 := Scalar.select v69 c1_i32_51 c4_i32_49
  let v71 : BitVec 32 := Scalar.remsi v68 v70
  let c0_i32_53 : BitVec 32 := 0#32
  let v73 : BitVec 1 := Scalar.cmpi .slt v71 c0_i32_53
  let c0_i32_54 : BitVec 32 := 0#32
  let v74 : BitVec 1 := Scalar.cmpi .slt v70 c0_i32_54
  let v75 : BitVec 1 := Scalar.xori v73 v74
  let c0_i32_52 : BitVec 32 := 0#32
  let v72 : BitVec 1 := Scalar.cmpi .ne v71 c0_i32_52
  let v76 : BitVec 1 := Scalar.andi v75 v72
  let v77 : BitVec 32 := Scalar.addi v71 v70
  let v78 : BitVec 32 := Scalar.select v76 v77 v71
  let c1_i32_59 : BitVec 32 := 1#32
  let v80 : BitVec 32 := Scalar.muli v78 c1_i32_59
  let v81 : BitVec 32 := Scalar.addi c0_i32_60 v80
  v81.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v89 : BitVec 32 := Scalar.addi v2 c3_i32_63
  let c4_i32_64 : BitVec 32 := 4#32
  let c0_i32_65 : BitVec 32 := 0#32
  let v90 : BitVec 1 := Scalar.cmpi .eq c4_i32_64 c0_i32_65
  let c1_i32_66 : BitVec 32 := 1#32
  let v91 : BitVec 32 := Scalar.select v90 c1_i32_66 c4_i32_64
  let v92 : BitVec 32 := Scalar.remsi v89 v91
  let c0_i32_68 : BitVec 32 := 0#32
  let v94 : BitVec 1 := Scalar.cmpi .slt v92 c0_i32_68
  let c0_i32_69 : BitVec 32 := 0#32
  let v95 : BitVec 1 := Scalar.cmpi .slt v91 c0_i32_69
  let v96 : BitVec 1 := Scalar.xori v94 v95
  let c0_i32_67 : BitVec 32 := 0#32
  let v93 : BitVec 1 := Scalar.cmpi .ne v92 c0_i32_67
  let v97 : BitVec 1 := Scalar.andi v96 v93
  let v98 : BitVec 32 := Scalar.addi v92 v91
  let v99 : BitVec 32 := Scalar.select v97 v98 v92
  let c1_i32_74 : BitVec 32 := 1#32
  let v101 : BitVec 32 := Scalar.muli v99 c1_i32_74
  let v102 : BitVec 32 := Scalar.addi c0_i32_75 v101
  v102.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_79 : BitVec 32 := 3#32
  let v110 : BitVec 32 := Scalar.addi v2 c3_i32_79
  let c4_i32_80 : BitVec 32 := 4#32
  let c0_i32_81 : BitVec 32 := 0#32
  let v111 : BitVec 1 := Scalar.cmpi .eq c4_i32_80 c0_i32_81
  let c1_i32_82 : BitVec 32 := 1#32
  let v112 : BitVec 32 := Scalar.select v111 c1_i32_82 c4_i32_80
  let v113 : BitVec 32 := Scalar.remsi v110 v112
  let c0_i32_84 : BitVec 32 := 0#32
  let v115 : BitVec 1 := Scalar.cmpi .slt v113 c0_i32_84
  let c0_i32_85 : BitVec 32 := 0#32
  let v116 : BitVec 1 := Scalar.cmpi .slt v112 c0_i32_85
  let v117 : BitVec 1 := Scalar.xori v115 v116
  let c0_i32_83 : BitVec 32 := 0#32
  let v114 : BitVec 1 := Scalar.cmpi .ne v113 c0_i32_83
  let v118 : BitVec 1 := Scalar.andi v117 v114
  let v119 : BitVec 32 := Scalar.addi v113 v112
  let v120 : BitVec 32 := Scalar.select v118 v119 v113
  let c1_i32_89 : BitVec 32 := 1#32
  let v122 : BitVec 32 := Scalar.muli v120 c1_i32_89
  let v123 : BitVec 32 := Scalar.addi c0_i32_90 v122
  v123.toNat
def k0_off4 (d0 : Dev nD) (c0_i32_206 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_205 : BitVec 32 := 1024#32
  let v302 : BitVec 32 := Scalar.muli v2 c1024_i32_205
  let v303 : BitVec 32 := Scalar.addi v302 c0_i32_206
  let c0_i32_211 : BitVec 32 := 0#32
  ![v303.toNat, 0]
def k0_off5 (d0 : Dev nD) (c0_i32_213 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_212 : BitVec 32 := 1024#32
  let v309 : BitVec 32 := Scalar.muli v2 c1024_i32_212
  let v310 : BitVec 32 := Scalar.addi v309 c0_i32_213
  let c2048_i32 : BitVec 32 := 2048#32
  ![v310.toNat, 2048]
def k0_off6 (d0 : Dev nD) (c0_i32_223 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_222 : BitVec 32 := 1024#32
  let v319 : BitVec 32 := Scalar.muli v2 c1024_i32_222
  let v320 : BitVec 32 := Scalar.addi v319 c0_i32_223
  let c4096_i32 : BitVec 32 := 4096#32
  ![v320.toNat, 4096]
def k0_off7 (d0 : Dev nD) (c0_i32_242 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_241 : BitVec 32 := 1024#32
  let v339 : BitVec 32 := Scalar.muli v2 c1024_i32_241
  let v340 : BitVec 32 := Scalar.addi v339 c0_i32_242
  let c6144_i32 : BitVec 32 := 6144#32
  ![v340.toNat, 6144]
def k0_off8 (d0 : Dev nD) (c0_i32_354 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v269 : BitVec 32 := Scalar.subi v2 c1_i32_184
  let c4_i32_185 : BitVec 32 := 4#32
  let c0_i32_186 : BitVec 32 := 0#32
  let v270 : BitVec 1 := Scalar.cmpi .eq c4_i32_185 c0_i32_186
  let c1_i32_187 : BitVec 32 := 1#32
  let v271 : BitVec 32 := Scalar.select v270 c1_i32_187 c4_i32_185
  let v272 : BitVec 32 := Scalar.remsi v269 v271
  let c0_i32_189 : BitVec 32 := 0#32
  let v274 : BitVec 1 := Scalar.cmpi .slt v272 c0_i32_189
  let c0_i32_190 : BitVec 32 := 0#32
  let v275 : BitVec 1 := Scalar.cmpi .slt v271 c0_i32_190
  let v276 : BitVec 1 := Scalar.xori v274 v275
  let c0_i32_188 : BitVec 32 := 0#32
  let v273 : BitVec 1 := Scalar.cmpi .ne v272 c0_i32_188
  let v277 : BitVec 1 := Scalar.andi v276 v273
  let v278 : BitVec 32 := Scalar.addi v272 v271
  let v279 : BitVec 32 := Scalar.select v277 v278 v272
  let c1024_i32_353 : BitVec 32 := 1024#32
  let v445 : BitVec 32 := Scalar.muli v279 c1024_i32_353
  let v446 : BitVec 32 := Scalar.addi v445 c0_i32_354
  let c0_i32_359 : BitVec 32 := 0#32
  ![v446.toNat, 0]
def k0_off9 (d0 : Dev nD) (c0_i32_379 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v269 : BitVec 32 := Scalar.subi v2 c1_i32_184
  let c4_i32_185 : BitVec 32 := 4#32
  let c0_i32_186 : BitVec 32 := 0#32
  let v270 : BitVec 1 := Scalar.cmpi .eq c4_i32_185 c0_i32_186
  let c1_i32_187 : BitVec 32 := 1#32
  let v271 : BitVec 32 := Scalar.select v270 c1_i32_187 c4_i32_185
  let v272 : BitVec 32 := Scalar.remsi v269 v271
  let c0_i32_189 : BitVec 32 := 0#32
  let v274 : BitVec 1 := Scalar.cmpi .slt v272 c0_i32_189
  let c0_i32_190 : BitVec 32 := 0#32
  let v275 : BitVec 1 := Scalar.cmpi .slt v271 c0_i32_190
  let v276 : BitVec 1 := Scalar.xori v274 v275
  let c0_i32_188 : BitVec 32 := 0#32
  let v273 : BitVec 1 := Scalar.cmpi .ne v272 c0_i32_188
  let v277 : BitVec 1 := Scalar.andi v276 v273
  let v278 : BitVec 32 := Scalar.addi v272 v271
  let v279 : BitVec 32 := Scalar.select v277 v278 v272
  let c1024_i32_378 : BitVec 32 := 1024#32
  let v468 : BitVec 32 := Scalar.muli v279 c1024_i32_378
  let v469 : BitVec 32 := Scalar.addi v468 c0_i32_379
  let c2048_i32_384 : BitVec 32 := 2048#32
  ![v469.toNat, 2048]
def k0_off10 (d0 : Dev nD) (c0_i32_412 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v269 : BitVec 32 := Scalar.subi v2 c1_i32_184
  let c4_i32_185 : BitVec 32 := 4#32
  let c0_i32_186 : BitVec 32 := 0#32
  let v270 : BitVec 1 := Scalar.cmpi .eq c4_i32_185 c0_i32_186
  let c1_i32_187 : BitVec 32 := 1#32
  let v271 : BitVec 32 := Scalar.select v270 c1_i32_187 c4_i32_185
  let v272 : BitVec 32 := Scalar.remsi v269 v271
  let c0_i32_189 : BitVec 32 := 0#32
  let v274 : BitVec 1 := Scalar.cmpi .slt v272 c0_i32_189
  let c0_i32_190 : BitVec 32 := 0#32
  let v275 : BitVec 1 := Scalar.cmpi .slt v271 c0_i32_190
  let v276 : BitVec 1 := Scalar.xori v274 v275
  let c0_i32_188 : BitVec 32 := 0#32
  let v273 : BitVec 1 := Scalar.cmpi .ne v272 c0_i32_188
  let v277 : BitVec 1 := Scalar.andi v276 v273
  let v278 : BitVec 32 := Scalar.addi v272 v271
  let v279 : BitVec 32 := Scalar.select v277 v278 v272
  let c1024_i32_411 : BitVec 32 := 1024#32
  let v498 : BitVec 32 := Scalar.muli v279 c1024_i32_411
  let v499 : BitVec 32 := Scalar.addi v498 c0_i32_412
  let c4096_i32_417 : BitVec 32 := 4096#32
  ![v499.toNat, 4096]
def k0_off11 (d0 : Dev nD) (c0_i32_437 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v269 : BitVec 32 := Scalar.subi v2 c1_i32_184
  let c4_i32_185 : BitVec 32 := 4#32
  let c0_i32_186 : BitVec 32 := 0#32
  let v270 : BitVec 1 := Scalar.cmpi .eq c4_i32_185 c0_i32_186
  let c1_i32_187 : BitVec 32 := 1#32
  let v271 : BitVec 32 := Scalar.select v270 c1_i32_187 c4_i32_185
  let v272 : BitVec 32 := Scalar.remsi v269 v271
  let c0_i32_189 : BitVec 32 := 0#32
  let v274 : BitVec 1 := Scalar.cmpi .slt v272 c0_i32_189
  let c0_i32_190 : BitVec 32 := 0#32
  let v275 : BitVec 1 := Scalar.cmpi .slt v271 c0_i32_190
  let v276 : BitVec 1 := Scalar.xori v274 v275
  let c0_i32_188 : BitVec 32 := 0#32
  let v273 : BitVec 1 := Scalar.cmpi .ne v272 c0_i32_188
  let v277 : BitVec 1 := Scalar.andi v276 v273
  let v278 : BitVec 32 := Scalar.addi v272 v271
  let v279 : BitVec 32 := Scalar.select v277 v278 v272
  let c1024_i32_436 : BitVec 32 := 1024#32
  let v521 : BitVec 32 := Scalar.muli v279 c1024_i32_436
  let v522 : BitVec 32 := Scalar.addi v521 c0_i32_437
  let c6144_i32_442 : BitVec 32 := 6144#32
  ![v522.toNat, 6144]
def k0_off12 (d0 : Dev nD) (c1_i32_191 : BitVec 32) (c0_i32_462 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_191
  let c4_i32_192 : BitVec 32 := 4#32
  let c0_i32_193 : BitVec 32 := 0#32
  let v281 : BitVec 1 := Scalar.cmpi .eq c4_i32_192 c0_i32_193
  let c1_i32_194 : BitVec 32 := 1#32
  let v282 : BitVec 32 := Scalar.select v281 c1_i32_194 c4_i32_192
  let v283 : BitVec 32 := Scalar.remsi v280 v282
  let c0_i32_196 : BitVec 32 := 0#32
  let v285 : BitVec 1 := Scalar.cmpi .slt v283 c0_i32_196
  let c0_i32_197 : BitVec 32 := 0#32
  let v286 : BitVec 1 := Scalar.cmpi .slt v282 c0_i32_197
  let v287 : BitVec 1 := Scalar.xori v285 v286
  let c0_i32_195 : BitVec 32 := 0#32
  let v284 : BitVec 1 := Scalar.cmpi .ne v283 c0_i32_195
  let v288 : BitVec 1 := Scalar.andi v287 v284
  let v289 : BitVec 32 := Scalar.addi v283 v282
  let v290 : BitVec 32 := Scalar.select v288 v289 v283
  let c1024_i32_461 : BitVec 32 := 1024#32
  let v544 : BitVec 32 := Scalar.muli v290 c1024_i32_461
  let v545 : BitVec 32 := Scalar.addi v544 c0_i32_462
  let c0_i32_467 : BitVec 32 := 0#32
  ![v545.toNat, 0]
def k0_off13 (d0 : Dev nD) (c1_i32_191 : BitVec 32) (c0_i32_487 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_191
  let c4_i32_192 : BitVec 32 := 4#32
  let c0_i32_193 : BitVec 32 := 0#32
  let v281 : BitVec 1 := Scalar.cmpi .eq c4_i32_192 c0_i32_193
  let c1_i32_194 : BitVec 32 := 1#32
  let v282 : BitVec 32 := Scalar.select v281 c1_i32_194 c4_i32_192
  let v283 : BitVec 32 := Scalar.remsi v280 v282
  let c0_i32_196 : BitVec 32 := 0#32
  let v285 : BitVec 1 := Scalar.cmpi .slt v283 c0_i32_196
  let c0_i32_197 : BitVec 32 := 0#32
  let v286 : BitVec 1 := Scalar.cmpi .slt v282 c0_i32_197
  let v287 : BitVec 1 := Scalar.xori v285 v286
  let c0_i32_195 : BitVec 32 := 0#32
  let v284 : BitVec 1 := Scalar.cmpi .ne v283 c0_i32_195
  let v288 : BitVec 1 := Scalar.andi v287 v284
  let v289 : BitVec 32 := Scalar.addi v283 v282
  let v290 : BitVec 32 := Scalar.select v288 v289 v283
  let c1024_i32_486 : BitVec 32 := 1024#32
  let v567 : BitVec 32 := Scalar.muli v290 c1024_i32_486
  let v568 : BitVec 32 := Scalar.addi v567 c0_i32_487
  let c2048_i32_492 : BitVec 32 := 2048#32
  ![v568.toNat, 2048]
def k0_off14 (d0 : Dev nD) (c1_i32_191 : BitVec 32) (c0_i32_520 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_191
  let c4_i32_192 : BitVec 32 := 4#32
  let c0_i32_193 : BitVec 32 := 0#32
  let v281 : BitVec 1 := Scalar.cmpi .eq c4_i32_192 c0_i32_193
  let c1_i32_194 : BitVec 32 := 1#32
  let v282 : BitVec 32 := Scalar.select v281 c1_i32_194 c4_i32_192
  let v283 : BitVec 32 := Scalar.remsi v280 v282
  let c0_i32_196 : BitVec 32 := 0#32
  let v285 : BitVec 1 := Scalar.cmpi .slt v283 c0_i32_196
  let c0_i32_197 : BitVec 32 := 0#32
  let v286 : BitVec 1 := Scalar.cmpi .slt v282 c0_i32_197
  let v287 : BitVec 1 := Scalar.xori v285 v286
  let c0_i32_195 : BitVec 32 := 0#32
  let v284 : BitVec 1 := Scalar.cmpi .ne v283 c0_i32_195
  let v288 : BitVec 1 := Scalar.andi v287 v284
  let v289 : BitVec 32 := Scalar.addi v283 v282
  let v290 : BitVec 32 := Scalar.select v288 v289 v283
  let c1024_i32_519 : BitVec 32 := 1024#32
  let v597 : BitVec 32 := Scalar.muli v290 c1024_i32_519
  let v598 : BitVec 32 := Scalar.addi v597 c0_i32_520
  let c4096_i32_525 : BitVec 32 := 4096#32
  ![v598.toNat, 4096]
def k0_off15 (d0 : Dev nD) (c1_i32_191 : BitVec 32) (c0_i32_545 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_191
  let c4_i32_192 : BitVec 32 := 4#32
  let c0_i32_193 : BitVec 32 := 0#32
  let v281 : BitVec 1 := Scalar.cmpi .eq c4_i32_192 c0_i32_193
  let c1_i32_194 : BitVec 32 := 1#32
  let v282 : BitVec 32 := Scalar.select v281 c1_i32_194 c4_i32_192
  let v283 : BitVec 32 := Scalar.remsi v280 v282
  let c0_i32_196 : BitVec 32 := 0#32
  let v285 : BitVec 1 := Scalar.cmpi .slt v283 c0_i32_196
  let c0_i32_197 : BitVec 32 := 0#32
  let v286 : BitVec 1 := Scalar.cmpi .slt v282 c0_i32_197
  let v287 : BitVec 1 := Scalar.xori v285 v286
  let c0_i32_195 : BitVec 32 := 0#32
  let v284 : BitVec 1 := Scalar.cmpi .ne v283 c0_i32_195
  let v288 : BitVec 1 := Scalar.andi v287 v284
  let v289 : BitVec 32 := Scalar.addi v283 v282
  let v290 : BitVec 32 := Scalar.select v288 v289 v283
  let c1024_i32_544 : BitVec 32 := 1024#32
  let v620 : BitVec 32 := Scalar.muli v290 c1024_i32_544
  let v621 : BitVec 32 := Scalar.addi v620 c0_i32_545
  let c6144_i32_550 : BitVec 32 := 6144#32
  ![v621.toNat, 6144]
def k0_dev8 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_647 : BitVec 32 := 2#32
  let v709 : BitVec 32 := Scalar.addi v2 c2_i32_647
  let c4_i32_648 : BitVec 32 := 4#32
  let c0_i32_649 : BitVec 32 := 0#32
  let v710 : BitVec 1 := Scalar.cmpi .eq c4_i32_648 c0_i32_649
  let c1_i32_650 : BitVec 32 := 1#32
  let v711 : BitVec 32 := Scalar.select v710 c1_i32_650 c4_i32_648
  let v712 : BitVec 32 := Scalar.remsi v709 v711
  let c0_i32_652 : BitVec 32 := 0#32
  let v714 : BitVec 1 := Scalar.cmpi .slt v712 c0_i32_652
  let c0_i32_653 : BitVec 32 := 0#32
  let v715 : BitVec 1 := Scalar.cmpi .slt v711 c0_i32_653
  let v716 : BitVec 1 := Scalar.xori v714 v715
  let c0_i32_651 : BitVec 32 := 0#32
  let v713 : BitVec 1 := Scalar.cmpi .ne v712 c0_i32_651
  let v717 : BitVec 1 := Scalar.andi v716 v713
  let v718 : BitVec 32 := Scalar.addi v712 v711
  let v719 : BitVec 32 := Scalar.select v717 v718 v712
  let c1_i32_658 : BitVec 32 := 1#32
  let v721 : BitVec 32 := Scalar.muli v719 c1_i32_658
  let v722 : BitVec 32 := Scalar.addi c0_i32_659 v721
  v722.toNat
def k0_dev9 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_663 : BitVec 32 := 2#32
  let v730 : BitVec 32 := Scalar.addi v2 c2_i32_663
  let c4_i32_664 : BitVec 32 := 4#32
  let c0_i32_665 : BitVec 32 := 0#32
  let v731 : BitVec 1 := Scalar.cmpi .eq c4_i32_664 c0_i32_665
  let c1_i32_666 : BitVec 32 := 1#32
  let v732 : BitVec 32 := Scalar.select v731 c1_i32_666 c4_i32_664
  let v733 : BitVec 32 := Scalar.remsi v730 v732
  let c0_i32_668 : BitVec 32 := 0#32
  let v735 : BitVec 1 := Scalar.cmpi .slt v733 c0_i32_668
  let c0_i32_669 : BitVec 32 := 0#32
  let v736 : BitVec 1 := Scalar.cmpi .slt v732 c0_i32_669
  let v737 : BitVec 1 := Scalar.xori v735 v736
  let c0_i32_667 : BitVec 32 := 0#32
  let v734 : BitVec 1 := Scalar.cmpi .ne v733 c0_i32_667
  let v738 : BitVec 1 := Scalar.andi v737 v734
  let v739 : BitVec 32 := Scalar.addi v733 v732
  let v740 : BitVec 32 := Scalar.select v738 v739 v733
  let c1_i32_674 : BitVec 32 := 1#32
  let v742 : BitVec 32 := Scalar.muli v740 c1_i32_674
  let v743 : BitVec 32 := Scalar.addi c0_i32_675 v742
  v743.toNat
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ProtoKernelIdeal.lean ====
/-
  The exchange of the kernel, written down: every device sends each of the other three its block of rows of `x`, in two
  halves of 512 columns, after all four have met on the barrier semaphore.

  * barrier cell of `e`: three duties of one unit; duty `i` is paid by `pr e i` (the device `i + 1` places on) and hands
    `e` the two halves of slot `i` of that device's receive buffer, at any contents: `e` is the one device that writes them;
  * receive cell `j` of `e` (`j = 2 i + k`: hop `i`, half `k`): one duty of one block's credit, paid by the transfer of the
    device `i + 1` places BEFORE `e`; it hands `e` its half slot `j` back, holding that device's rows of `x` meant for `e`;
  * send cell `j` of `c`: one duty of one block's credit, paid by `c`'s own transfer; it hands back the share of `x` lent to it.
-/
module

public import proofs.«01_k».proof.Defs
public import Idealize.ShloMosaic.Lib.Pipeline.Launch
public import Idealize.ShloMosaic.Lib.Transfers
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells, the exchange's cells, the counters of the local copies -/

/-- The exchange's part: the rounds of its cells (three duty names). -/
abbrev UX : Type := URounds (GSem nD τ sig) (Fin 3)
/-- The whole user part. -/
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's part inside the machine's algebra. -/
def ER : Emb UX (MT nD τ sig Unit (Elt F) ℕ UU ℕ) :=
  (Emb.inl : Emb UX (UX × Counters)).trans (embR : Emb (UX × Counters) (MT nD τ sig Unit (Elt F) ℕ UU ℕ))

instance ER_landsIn : (ER (F := F)).LandsIn (upEmb : UEmb _ 𝕄) := by unfold ER; infer_instance

variable (m : (ℓ : Loc nD τ sig) → Buf (Elt F) ℓ) (ρ : Dev nD → PrngReg)

abbrev 𝒱₀ : Variants := Variants.none

/-! ## The devices -/

set_option backward.proofsInPublic true in
/-- The device `i + 1` places after `c` on the ring of four. -/
def pr (c : Dev nD) (i : Fin 3) : Dev nD := ⟨(c.val + (i.val + 1)) % 4, Nat.mod_lt _ (by decide)⟩

theorem pr_pr0 (c : Dev nD) : pr (pr c 0) 2 = c := by revert c; decide
theorem pr_pr1 (c : Dev nD) : pr (pr c 1) 1 = c := by revert c; decide
theorem pr_pr2 (c : Dev nD) : pr (pr c 2) 0 = c := by revert c; decide

theorem dev1_eq (c : Dev nD) : (⟨k0_dev1 c, k0_dev1_lt c⟩ : Dev nD) = pr c 0 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 2 := by revert c; decide +kernel
theorem dev4_eq (c : Dev nD) : (⟨k0_dev4 c, k0_dev4_lt c⟩ : Dev nD) = pr c 0 := by revert c; decide +kernel
theorem dev5_eq (c : Dev nD) : (⟨k0_dev5 c, k0_dev5_lt c⟩ : Dev nD) = pr c 0 := by revert c; decide +kernel
theorem dev6_eq (c : Dev nD) : (⟨k0_dev6 c, k0_dev6_lt c⟩ : Dev nD) = pr c 2 := by revert c; decide +kernel
theorem dev7_eq (c : Dev nD) : (⟨k0_dev7 c, k0_dev7_lt c⟩ : Dev nD) = pr c 2 := by revert c; decide +kernel
theorem dev8_eq (c : Dev nD) : (⟨k0_dev8 c, k0_dev8_lt c⟩ : Dev nD) = pr c 1 := by revert c; decide +kernel
theorem dev9_eq (c : Dev nD) : (⟨k0_dev9 c, k0_dev9_lt c⟩ : Dev nD) = pr c 1 := by revert c; decide +kernel

/-! ## The buffers, as the body slices them -/

abbrev xM : Memref sig .tc .hbm S4096x1024 .f32 := Memref.whole main_arg0
abbrev wM : Memref sig .tc .hbm S4096x8192 .f32 := Memref.whole main_arg1
abbrev xbM : Memref sig .tc .vmem S4x1024x1024 .f32 := Memref.whole cc0_scratch0
abbrev wbM : Memref sig .tc .vmem S3x512x2048 .f32 := Memref.whole cc0_scratch1
abbrev oM : Memref sig .tc .vmem S1024x8192 .f32 := Memref.whole cc0_stg0_0

/-- The half slots of the receive buffer: `xb (2 i + k)` is half `k` of slot `i`. -/
abbrev xb0 : Memref sig .tc .vmem S1024x512 .f32 := (xbM.slice (Rect.unit (s := S4x1024x1024) ![0, 0, 0] S1x1024x512.size inb_S4x1024x1024_S1x1024x512_0_0_0) (fun _ => rfl)).squeeze S1024x512 squeezes_S1x1024x512_S1024x512
abbrev xb1 : Memref sig .tc .vmem S1024x512 .f32 := (xbM.slice (Rect.unit (s := S4x1024x1024) ![0, 0, 512] S1x1024x512.size inb_S4x1024x1024_S1x1024x512_0_0_512) (fun _ => rfl)).squeeze S1024x512 squeezes_S1x1024x512_S1024x512
abbrev xb2 : Memref sig .tc .vmem S1024x512 .f32 := (xbM.slice (Rect.unit (s := S4x1024x1024) ![1, 0, 0] S1x1024x512.size inb_S4x1024x1024_S1x1024x512_1_0_0) (fun _ => rfl)).squeeze S1024x512 squeezes_S1x1024x512_S1024x512
abbrev xb3 : Memref sig .tc .vmem S1024x512 .f32 := (xbM.slice (Rect.unit (s := S4x1024x1024) ![1, 0, 512] S1x1024x512.size inb_S4x1024x1024_S1x1024x512_1_0_512) (fun _ => rfl)).squeeze S1024x512 squeezes_S1x1024x512_S1024x512
abbrev xb4 : Memref sig .tc .vmem S1024x512 .f32 := (xbM.slice (Rect.unit (s := S4x1024x1024) ![2, 0, 0] S1x1024x512.size inb_S4x1024x1024_S1x1024x512_2_0_0) (fun _ => rfl)).squeeze S1024x512 squeezes_S1x1024x512_S1024x512
abbrev xb5 : Memref sig .tc .vmem S1024x512 .f32 := (xbM.slice (Rect.unit (s := S4x1024x1024) ![2, 0, 512] S1x1024x512.size inb_S4x1024x1024_S1x1024x512_2_0_512) (fun _ => rfl)).squeeze S1024x512 squeezes_S1x1024x512_S1024x512
/-- The device's own slot. -/
abbrev xbL : Memref sig .tc .vmem S1024x1024 .f32 := (xbM.slice (Rect.unit (s := S4x1024x1024) ![3, 0, 0] S1x1024x1024.size inb_S4x1024x1024_S1x1024x1024_3_0_0) (fun _ => rfl)).squeeze S1024x1024 squeezes_S1x1024x1024_S1024x1024

/-- The three slots of the weight buffer. -/
abbrev wb0 : Memref sig .tc .vmem S512x2048 .f32 := (wbM.slice (Rect.unit (s := S3x512x2048) ![0, 0, 0] S1x512x2048.size inb_S3x512x2048_S1x512x2048_0_0_0) (fun _ => rfl)).squeeze S512x2048 squeezes_S1x512x2048_S512x2048
abbrev wb1 : Memref sig .tc .vmem S512x2048 .f32 := (wbM.slice (Rect.unit (s := S3x512x2048) ![1, 0, 0] S1x512x2048.size inb_S3x512x2048_S1x512x2048_1_0_0) (fun _ => rfl)).squeeze S512x2048 squeezes_S1x512x2048_S512x2048
abbrev wb2 : Memref sig .tc .vmem S512x2048 .f32 := (wbM.slice (Rect.unit (s := S3x512x2048) ![2, 0, 0] S1x512x2048.size inb_S3x512x2048_S1x512x2048_2_0_0) (fun _ => rfl)).squeeze S512x2048 squeezes_S1x512x2048_S512x2048

/-- The pieces of `x` device `c` sends: `xs (2 i + k)` is half `k` of the rows meant for `pr c i`. -/
abbrev xs0 (c : Dev nD) : Memref sig .tc .hbm S1024x512 .f32 := xM.slice (Rect.unit (s := S4096x1024) (k0_off2 c 1#32) S1024x512.size (k0_off2_inb c 0)) (fun _ => rfl)
abbrev xs1 (c : Dev nD) : Memref sig .tc .hbm S1024x512 .f32 := xM.slice (Rect.unit (s := S4096x1024) (k0_off3 c 1#32) S1024x512.size (k0_off3_inb c 0)) (fun _ => rfl)
abbrev xs2 (c : Dev nD) : Memref sig .tc .hbm S1024x512 .f32 := xM.slice (Rect.unit (s := S4096x1024) (k0_off2 c 2#32) S1024x512.size (k0_off2_inb c 1)) (fun _ => rfl)
abbrev xs3 (c : Dev nD) : Memref sig .tc .hbm S1024x512 .f32 := xM.slice (Rect.unit (s := S4096x1024) (k0_off3 c 2#32) S1024x512.size (k0_off3_inb c 1)) (fun _ => rfl)
abbrev xs4 (c : Dev nD) : Memref sig .tc .hbm S1024x512 .f32 := xM.slice (Rect.unit (s := S4096x1024) (k0_off2 c 3#32) S1024x512.size (k0_off2_inb c 2)) (fun _ => rfl)
abbrev xs5 (c : Dev nD) : Memref sig .tc .hbm S1024x512 .f32 := xM.slice (Rect.unit (s := S4096x1024) (k0_off3 c 3#32) S1024x512.size (k0_off3_inb c 2)) (fun _ => rfl)
/-- The rows it keeps. -/
abbrev xsL (c : Dev nD) : Memref sig .tc .hbm S1024x1024 .f32 := xM.slice (Rect.unit (s := S4096x1024) (k0_off1 c) S1024x1024.size (k0_off1_inb c)) (fun _ => rfl)

/-- What they read in the launch memory. -/
abbrev xd0 (c : Dev nD) : S1024x512.Idx → Elt F .f32 := (xs0 c).view.read (Elt F) (m ((c : Thread nD τ).loc main_arg0))
abbrev xd1 (c : Dev nD) : S1024x512.Idx → Elt F .f32 := (xs1 c).view.read (Elt F) (m ((c : Thread nD τ).loc main_arg0))
abbrev xd2 (c : Dev nD) : S1024x512.Idx → Elt F .f32 := (xs2 c).view.read (Elt F) (m ((c : Thread nD τ).loc main_arg0))
abbrev xd3 (c : Dev nD) : S1024x512.Idx → Elt F .f32 := (xs3 c).view.read (Elt F) (m ((c : Thread nD τ).loc main_arg0))
abbrev xd4 (c : Dev nD) : S1024x512.Idx → Elt F .f32 := (xs4 c).view.read (Elt F) (m ((c : Thread nD τ).loc main_arg0))
abbrev xd5 (c : Dev nD) : S1024x512.Idx → Elt F .f32 := (xs5 c).view.read (Elt F) (m ((c : Thread nD τ).loc main_arg0))

/-! ## The cells -/

/-- The barrier semaphore of collective id 0. -/
abbrev barS : Sem sig := (SemArray.scalar (sig.barrier 0 rfl) : Sems sig S_).sem
set_option backward.proofsInPublic true in
/-- The send semaphores, -/
def sS (j : Fin 6) : DmaSem sig := ⟨1 + j.val, by have := j.isLt; show 1 + j.val < 17; omega⟩
set_option backward.proofsInPublic true in
/-- and the receive semaphores. -/
def rS (j : Fin 6) : DmaSem sig := ⟨7 + j.val, by have := j.isLt; show 7 + j.val < 17; omega⟩

abbrev barCell (c : Dev nD) : GSem nD τ sig := ((c : Thread nD τ), .reg barS)
abbrev sendCell (c : Dev nD) (j : Fin 6) : GSem nD τ sig := ((c : Thread nD τ), .dma (sS j))
abbrev recvCell (c : Dev nD) (j : Fin 6) : GSem nD τ sig := ((c : Thread nD τ), .dma (rS j))

/-- A half slot's credit. -/
abbrev NN : ℕ := (xb0 : Memref sig .tc .vmem S1024x512 .f32).view.dmaCredit
theorem NN_pos : 0 < NN := View.dmaCredit_pos _ (by decide)

/-! ## What the duties hand over -/

/-- A half slot of device `e` at some contents; -/
def someP (M : Memref sig .tc .vmem S1024x512 .f32) (e : Dev nD) : sProp 𝕄 :=
  iprop(∃ g : Buf (Elt F) (M.view.loc (e : Thread nD τ)), M.view.loc (e : Thread nD τ) ↦[M.view.set]{fullShare} g)
/-- a half slot of device `e` holding `v`; -/
def holdsP (M : Memref sig .tc .vmem S1024x512 .f32) (e : Dev nD) (v : S1024x512.Idx → Elt F .f32) : sProp 𝕄 :=
  iprop(∃ g : Buf (Elt F) (M.view.loc (e : Thread nD τ)), M.view.loc (e : Thread nD τ) ↦[M.view.set]{fullShare} M.view.write (Elt F) g v Finset.univ)
/-- the share of a piece of `x` lent to send `j`. -/
def lentP (M : Memref sig .tc .hbm S1024x512 .f32) (c : Dev nD) (j : ℕ) : sProp 𝕄 :=
  iprop(∃ g : Buf (Elt F) (M.view.loc (c : Thread nD τ)), M.view.loc (c : Thread nD τ) ↦[M.view.set]{Transfers.shareTokN fullShare j} g)

/-- Barrier duty `i`: both halves of slot `i` of `e`. -/
def barP (e : Dev nD) : Fin 3 → sProp 𝕄
  | 0 => iprop(someP xb0 e ∗ someP xb1 e)
  | 1 => iprop(someP xb2 e ∗ someP xb3 e)
  | 2 => iprop(someP xb4 e ∗ someP xb5 e)

/-- The duty of DMA semaphore `s` of device `e`. -/
def dmaP (e : Dev nD) (s : ℕ) : sProp 𝕄 :=
  match s with
  | 1 => lentP (xs0 e) e 0
  | 2 => lentP (xs1 e) e 1
  | 3 => lentP (xs2 e) e 2
  | 4 => lentP (xs3 e) e 3
  | 5 => lentP (xs4 e) e 4
  | 6 => lentP (xs5 e) e 5
  | 7 => holdsP xb0 e (xd0 m (pr e 2))
  | 8 => holdsP xb1 e (xd1 m (pr e 2))
  | 9 => holdsP xb2 e (xd2 m (pr e 1))
  | 10 => holdsP xb3 e (xd3 m (pr e 1))
  | 11 => holdsP xb4 e (xd4 m (pr e 0))
  | 12 => holdsP xb5 e (xd5 m (pr e 0))
  | _ => iprop(emp)

instance someP_storable (M) (e : Dev nD) : BI.Storable (upEmb : UEmb _ 𝕄) (someP (F := F) M e) := by unfold someP; infer_instance
instance holdsP_storable (M) (e : Dev nD) (v) : BI.Storable (upEmb : UEmb _ 𝕄) (holdsP (F := F) M e v) := by unfold holdsP; infer_instance
instance lentP_storable (M) (e : Dev nD) (j) : BI.Storable (upEmb : UEmb _ 𝕄) (lentP (F := F) M e j) := by unfold lentP; infer_instance
instance barP_storable (e : Dev nD) (i) : BI.Storable (upEmb : UEmb _ 𝕄) (barP (F := F) e i) := by unfold barP; split <;> infer_instance
instance dmaP_storable (e : Dev nD) (s) : BI.Storable (upEmb : UEmb _ 𝕄) (dmaP (F := F) m e s) := by unfold dmaP; split <;> infer_instance

/-- Every cell of the exchange has one round. -/
def rd : Rounds.Schedule (GSem nD τ sig) (Fin 3) 𝕄 where
  duties g r := if r = 0 ∧ g.1.2 = .tc then
      (match g.2 with
       | .reg _ => Finset.univ
       | .dma s => if 1 ≤ s.val ∧ s.val ≤ 12 then {0} else ∅)
    else ∅
  unitless _ := False
  amount g _ _ := match g.2 with | .reg _ => 1 | .dma _ => NN
  payload g _ d := match g.2 with | .reg _ => barP (pr g.1.1 d) d | .dma s => dmaP m g.1.1 s.val
  amount_pos g _ _ _ := by
    obtain ⟨t, s⟩ := g
    cases s
    · exact Nat.one_pos
    · exact NN_pos

instance rd_payload_storable (g : GSem nD τ sig) (r : ℕ) (d : Fin 3) :
    BI.Storable (upEmb : UEmb _ 𝕄) ((rd (F := F) m).payload g r d) := by
  obtain ⟨t, s⟩ := g
  cases s
  · exact barP_storable _ _
  · exact dmaP_storable _ _ _

/-! ## The schedule's tables -/

section Sched
variable (c : Dev nD)

omit [FloatOps F] in
theorem duties_bar : (rd (F := F) m).duties (barCell c) 0 = {0, 1, 2} := by
  dsimp only [rd]; rw [if_pos ⟨rfl, rfl⟩]; decide
omit [FloatOps F] in
theorem duties_send (j : Fin 6) : (rd (F := F) m).duties (sendCell c j) 0 = {0} := by
  dsimp only [rd, sS]; rw [if_pos ⟨rfl, rfl⟩]; exact if_pos ⟨by omega, by have := j.isLt; omega⟩
omit [FloatOps F] in
theorem duties_recv (j : Fin 6) : (rd (F := F) m).duties (recvCell c j) 0 = {0} := by
  dsimp only [rd, rS]; rw [if_pos ⟨rfl, rfl⟩]; exact if_pos ⟨by omega, by have := j.isLt; omega⟩
omit [FloatOps F] in
theorem duties_later (g : GSem nD τ sig) : ∀ r, 1 ≤ r → (rd (F := F) m).duties g r = ∅ :=
  fun r hr => by dsimp only [rd]; exact if_neg fun h => by omega

omit [FloatOps F] in
theorem amount_bar (d : Fin 3) : (rd (F := F) m).amount (barCell c) 0 d = 1 := rfl
omit [FloatOps F] in
theorem amount_send (j : Fin 6) (d : Fin 3) : (rd (F := F) m).amount (sendCell c j) 0 d = NN := rfl
omit [FloatOps F] in
theorem amount_recv (j : Fin 6) (d : Fin 3) : (rd (F := F) m).amount (recvCell c j) 0 d = NN := rfl

omit [FloatOps F] in
theorem expect_bar : (rd (F := F) m).expect (barCell c) 0 = 3 := by
  unfold Schedule.expect Schedule.amountOf
  rw [duties_bar, Finset.sum_congr rfl fun d _ => amount_bar m c d]; rfl
omit [FloatOps F] in
theorem expect_send (j : Fin 6) : (rd (F := F) m).expect (sendCell c j) 0 = NN := by
  unfold Schedule.expect Schedule.amountOf; rw [duties_send, Finset.sum_singleton, amount_send]
omit [FloatOps F] in
theorem expect_recv (j : Fin 6) : (rd (F := F) m).expect (recvCell c j) 0 = NN := by
  unfold Schedule.expect Schedule.amountOf; rw [duties_recv, Finset.sum_singleton, amount_recv]

omit [FloatOps F] in
theorem payload_bar0 : (rd (F := F) m).payload (barCell c) 0 0 = iprop(someP xb0 (pr c 0) ∗ someP xb1 (pr c 0)) := rfl
omit [FloatOps F] in
theorem payload_bar1 : (rd (F := F) m).payload (barCell c) 0 1 = iprop(someP xb2 (pr c 1) ∗ someP xb3 (pr c 1)) := rfl
omit [FloatOps F] in
theorem payload_bar2 : (rd (F := F) m).payload (barCell c) 0 2 = iprop(someP xb4 (pr c 2) ∗ someP xb5 (pr c 2)) := rfl
omit [FloatOps F] in
theorem payload_send0 : (rd (F := F) m).payload (sendCell c 0) 0 0 = lentP (xs0 c) c 0 := rfl
omit [FloatOps F] in
theorem payload_send1 : (rd (F := F) m).payload (sendCell c 1) 0 0 = lentP (xs1 c) c 1 := rfl
omit [FloatOps F] in
theorem payload_send2 : (rd (F := F) m).payload (sendCell c 2) 0 0 = lentP (xs2 c) c 2 := rfl
omit [FloatOps F] in
theorem payload_send3 : (rd (F := F) m).payload (sendCell c 3) 0 0 = lentP (xs3 c) c 3 := rfl
omit [FloatOps F] in
theorem payload_send4 : (rd (F := F) m).payload (sendCell c 4) 0 0 = lentP (xs4 c) c 4 := rfl
omit [FloatOps F] in
theorem payload_send5 : (rd (F := F) m).payload (sendCell c 5) 0 0 = lentP (xs5 c) c 5 := rfl
omit [FloatOps F] in
theorem payload_recv0 : (rd (F := F) m).payload (recvCell c 0) 0 0 = holdsP xb0 c (xd0 m (pr c 2)) := rfl
omit [FloatOps F] in
theorem payload_recv1 : (rd (F := F) m).payload (recvCell c 1) 0 0 = holdsP xb1 c (xd1 m (pr c 2)) := rfl
omit [FloatOps F] in
theorem payload_recv2 : (rd (F := F) m).payload (recvCell c 2) 0 0 = holdsP xb2 c (xd2 m (pr c 1)) := rfl
omit [FloatOps F] in
theorem payload_recv3 : (rd (F := F) m).payload (recvCell c 3) 0 0 = holdsP xb3 c (xd3 m (pr c 1)) := rfl
omit [FloatOps F] in
theorem payload_recv4 : (rd (F := F) m).payload (recvCell c 4) 0 0 = holdsP xb4 c (xd4 m (pr c 0)) := rfl
omit [FloatOps F] in
theorem payload_recv5 : (rd (F := F) m).payload (recvCell c 5) 0 0 = holdsP xb5 c (xd5 m (pr c 0)) := rfl

omit [FloatOps F] in
theorem someP_eq (M : Memref sig .tc .vmem S1024x512 .f32) (e : Dev nD) : (someP M e : sProp 𝕄)
    = iprop(∃ g : Buf (Elt F) (M.view.loc (e : Thread nD τ)), M.view.loc (e : Thread nD τ) ↦[M.view.set]{fullShare} g) := rfl
omit [FloatOps F] in
theorem holdsP_eq (M : Memref sig .tc .vmem S1024x512 .f32) (e : Dev nD) (v : S1024x512.Idx → Elt F .f32) : (holdsP M e v : sProp 𝕄)
    = iprop(∃ g : Buf (Elt F) (M.view.loc (e : Thread nD τ)), M.view.loc (e : Thread nD τ) ↦[M.view.set]{fullShare} M.view.write (Elt F) g v Finset.univ) := rfl
omit [FloatOps F] in
theorem lentP_eq (M : Memref sig .tc .hbm S1024x512 .f32) (c : Dev nD) (j : ℕ) : (lentP M c j : sProp 𝕄)
    = iprop(∃ g : Buf (Elt F) (M.view.loc (c : Thread nD τ)), M.view.loc (c : Thread nD τ) ↦[M.view.set]{Transfers.shareTokN fullShare j} g) := rfl

end Sched

/-! ## What each device owes, and the levels of the cells -/

/-- The two transfers of hop 1 (two places on), started last; -/
abbrev O2 (c : Dev nD) : CellTallies nD τ sig Unit := tallyAt (recvCell (pr c 1) 3) () NN + tallyAt (recvCell (pr c 1) 2) () NN
/-- all six transfers; -/
abbrev O6 (c : Dev nD) : CellTallies nD τ sig Unit :=
  O2 c + tallyAt (recvCell (pr c 2) 5) () NN + tallyAt (recvCell (pr c 2) 4) () NN + tallyAt (recvCell (pr c 0) 1) () NN + tallyAt (recvCell (pr c 0) 0) () NN
/-- and the three barrier units. -/
abbrev O₀ (c : Dev nD) : CellTallies nD τ sig Unit :=
  O6 c + tallyAt (barCell (pr c 2)) () 1 + tallyAt (barCell (pr c 1)) () 1 + tallyAt (barCell (pr c 0)) () 1

def L (g : GSem nD τ sig) : Finset Unit := if g.1.2 = .tc then {()} else ∅
/-- Barrier cells at 1, the receive cells of hops 0 and 2 at 2, those of hop 1 at 3, every other cell at 0. -/
def lv (g : GSem nD τ sig) (_ : Unit) : ℕ := match g.2 with
  | .reg _ => 1
  | .dma s => if 7 ≤ s.val ∧ s.val ≤ 12 then (if s.val = 9 ∨ s.val = 10 then 3 else 2) else 0

theorem L_of_ne (g : GSem nD τ sig) (h : g.1.2 ≠ .tc) : L g = ∅ := if_neg h
theorem L_tc (c : Dev nD) (sm : SemLoc sig) : L ((c : Thread nD τ), sm) = {()} := if_pos rfl

/-- Every cell in `O` is a core's, at a level above `n`. -/
def Above (n : ℕ) (O : CellTallies nD τ sig Unit) : Prop := ∀ g u, 0 < O g u → g.1.2 = .tc ∧ n < lv g ()

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} {e : Dev nD} {sm : SemLoc sig} {k : ℕ} (h : n < lv ((e : Thread nD τ), sm) ()) :
    Above n (tallyAt ((e : Thread nD τ), sm) () k) := fun g u hg => by
  rw [tallyAt_apply] at hg
  by_cases h' : g = ((e : Thread nD τ), sm) ∧ u = ()
  · rw [h'.1]; exact ⟨rfl, h⟩
  · rw [if_neg h'] at hg; exact absurd hg (Nat.lt_irrefl 0)

omit [FloatOps F] in
/-- A wait is allowed when everything owed lies above the awaited cell. -/
theorem mayWait_of_above {c : Dev nD} {sm : SemLoc sig} {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem lv_bar (e : Dev nD) : lv (barCell e) () = 1 := rfl
theorem lv_recv (e : Dev nD) (j : Fin 6) : lv (recvCell e j) () = if j = 2 ∨ j = 3 then 3 else 2 := by revert e j; decide

theorem above_recv (n : ℕ) (h : n ≤ 1) (e : Dev nD) (j : Fin 6) : Above n (tallyAt (recvCell e j) () NN) :=
  Above.tally (by rw [lv_recv]; split <;> omega)
theorem above_bar (n : ℕ) (h : n ≤ 0) (e : Dev nD) : Above n (tallyAt (barCell e) () 1) :=
  Above.tally (by rw [lv_bar]; omega)
theorem above_O2 (n : ℕ) (h : n ≤ 2) (c : Dev nD) : Above n (O2 c) :=
  (Above.tally (by rw [lv_recv, if_pos (by decide)]; omega)).add (Above.tally (by rw [lv_recv, if_pos (by decide)]; omega))
theorem above_O6 (n : ℕ) (h : n ≤ 1) (c : Dev nD) : Above n (O6 c) :=
  ((((above_O2 n (by omega) c).add (above_recv n h _ 5)).add (above_recv n h _ 4)).add (above_recv n h _ 1)).add (above_recv n h _ 0)
theorem above_O₀ (n : ℕ) (h : n ≤ 0) (c : Dev nD) : Above n (O₀ c) :=
  (((above_O6 n (by omega) c).add (above_bar n h _)).add (above_bar n h _)).add (above_bar n h _)

end Cert.KernelIdealProof

end
-- ==== Proof.ColKernelIdeal.lean ====
/-
  What the body computes, written down apart from its run: at each of eight steps a block of rows of `x` (the device's own,
  or one received) is multiplied with a tile of `w`, in each of four groups of columns of the result, and the products are
  added up one after another. The lemmas here read the loads and the stores of the run at those blocks and tiles.
-/
module

public import proofs.«01_k».proof.Proof.ProtoKernelIdeal
public import Idealize.ShloMosaic.Lib.Pipeline.Value
public import Idealize.ShloMosaic.Lib.Pipeline.FrameBody
public import Idealize.ShloMosaic.Lib.WritesUnit
public import Idealize.ShloMosaic.Lib.ValueIdxCore

@[expose] public section

noncomputable section

namespace Cert.KernelIdealProof

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-! ## The sum -/

/-- One block product. -/
def dotv (a : FVec F S1024x512 .f32) (b : FVec F S512x2048 .f32) : FVec F S1024x2048 .f32 :=
  matmul dot_S1024x512_S512x2048_S1024x2048_1_0_0_1_n_n none a b (constant S1024x2048 .f32 0x00000000#32)

/-- One block product added to what is there. -/
def accv (a : FVec F S1024x512 .f32) (b : FVec F S512x2048 .f32) (acc : FVec F S1024x2048 .f32) : FVec F S1024x2048 .f32 :=
  addf acc (dotv a b)

/-- Eight block products added up in order. -/
def fold8 (x : Fin 8 → FVec F S1024x512 .f32) (w : Fin 8 → FVec F S512x2048 .f32) : FVec F S1024x2048 .f32 :=
  accv (x 7) (w 7) (accv (x 6) (w 6) (accv (x 5) (w 5) (accv (x 4) (w 4) (accv (x 3) (w 3) (accv (x 2) (w 2)
    (accv (x 1) (w 1) (dotv (x 0) (w 0))))))))

/-! ## The blocks of `x` and the tiles of `w` -/

/-- The device's own rows, -/
abbrev xdL (c : Dev nD) : S1024x1024.Idx → Elt F .f32 := (xsL c).view.read (Elt F) (m ((c : Thread nD τ).loc main_arg0))
set_option backward.proofsInPublic true in
/-- and half `k` of them. -/
def xo (c : Dev nD) (k : Fin 2) : FVec F S1024x512 .f32 :=
  fun i => xdL m c (ix2 (n0 := 1024) (n1 := 1024) (i 0)
    ⟨512 * k.val + (i 1).val, by have : (i 1).val < 512 := (i 1).isLt; have := k.isLt; omega⟩)

/-- The block of `x` of step `si`. -/
def xp (c : Dev nD) : Fin 8 → FVec F S1024x512 .f32
  | 0 => xo m c 0
  | 1 => xo m c 1
  | 2 => xd0 m (pr c 2)
  | 3 => xd4 m (pr c 0)
  | 4 => xd1 m (pr c 2)
  | 5 => xd5 m (pr c 0)
  | 6 => xd2 m (pr c 1)
  | 7 => xd3 m (pr c 1)

/-- Where the tile of `w` of step `si` and column group `nt` starts: in the kernel's words, -/
def wOff (c : Dev nD) (nt : Fin 4) : Fin 8 → (Fin 2 → ℕ)
  | 0 => (![k0_off4, k0_off5, k0_off6, k0_off7] nt) c 0#32
  | 1 => (![k0_off4, k0_off5, k0_off6, k0_off7] nt) c 512#32
  | 2 => (![k0_off8, k0_off9, k0_off10, k0_off11] nt) c 0#32
  | 3 => (![k0_off12, k0_off13, k0_off14, k0_off15] nt) c 1#32 0#32
  | 4 => (![k0_off8, k0_off9, k0_off10, k0_off11] nt) c 512#32
  | 5 => (![k0_off12, k0_off13, k0_off14, k0_off15] nt) c 1#32 512#32
  | 6 => (![k0_off12, k0_off13, k0_off14, k0_off15] nt) c 2#32 0#32
  | 7 => (![k0_off12, k0_off13, k0_off14, k0_off15] nt) c 2#32 512#32

/-- The device whose columns of `x` step `si` uses, -/
def src (c : Dev nD) : Fin 8 → Dev nD
  | 0 => c | 1 => c | 2 => pr c 2 | 3 => pr c 0 | 4 => pr c 2 | 5 => pr c 0 | 6 => pr c 1 | 7 => pr c 1

/-- and which half of them. -/
def half : Fin 8 → Fin 2
  | 0 => 0 | 1 => 1 | 2 => 0 | 3 => 0 | 4 => 1 | 5 => 1 | 6 => 0 | 7 => 1

/-- In closed form: the rows of `w` that belong to the columns of `x`, and the columns of group `nt`. -/
theorem wOff_eq : ∀ (c : Dev nD) (nt : Fin 4) (si : Fin 8),
    wOff c nt si = ![1024 * (src c si).val + 512 * (half si).val, 2048 * nt.val] := by decide +kernel

theorem wOff_inb (c : Dev nD) (nt : Fin 4) (si : Fin 8) : ∀ a, wOff c nt si a + S512x2048.size a ≤ S4096x8192.size a := by
  rw [wOff_eq]
  have h1 : (src c si).val < 4 := (src c si).isLt
  have h2 := (half si).isLt
  have h3 := nt.isLt
  intro a
  match a with
  | 0 => show 1024 * (src c si).val + 512 * (half si).val + 512 ≤ 4096; omega
  | 1 => show 2048 * nt.val + 2048 ≤ 8192; omega

/-- The tile of `w` at an offset, -/
def wt (c : Dev nD) (off : Fin 2 → ℕ) (inb : ∀ a, off a + S512x2048.size a ≤ S4096x8192.size a) : FVec F S512x2048 .f32 :=
  (wM.slice (Rect.unit (s := S4096x8192) off S512x2048.size inb) (fun _ => rfl)).view.read (Elt F) (m ((c : Thread nD τ).loc main_arg1))

/-- Columns group `nt` of the result of device `c`. -/
def colv (c : Dev nD) (nt : Fin 4) : FVec F S1024x2048 .f32 :=
  fold8 (xp m c) (fun si => wt m c (wOff c nt si) (wOff_inb c nt si))

set_option backward.proofsInPublic true in
/-- Four groups of columns side by side. -/
def glue (a : Fin 4 → FVec F S1024x2048 .f32) : FVec F S1024x8192 .f32 :=
  fun i => a ⟨(i 1).val / 2048, by have : (i 1).val < 8192 := (i 1).isLt; omega⟩
    (ix2 (n0 := 1024) (n1 := 2048) (i 0) ⟨(i 1).val % 2048, Nat.mod_lt _ (by decide)⟩)

/-- The result of device `c`. -/
def outAt (c : Dev nD) : FVec F S1024x8192 .f32 := glue (colv m c)

/-! ## The loads -/

/-- A half slot is loaded as it was written. -/
theorem load_xb (off : Fin 3 → ℕ) (inb : ∀ a, off a + S1x1024x512.size a ≤ S4x1024x1024.size a) (g)
    (y : S1024x512.Idx → Elt F .f32) (h : S1x1024x512.ShapeCasts S1024x512) :
    shapeCast S1024x512 (View.readAt (Elt F) xbM.view (Rect.unit (s := S4x1024x1024) off S1x1024x512.size inb).toLoadRect
      (View.write (Elt F) ((xbM.slice (Rect.unit (s := S4x1024x1024) off S1x1024x512.size inb) (fun _ => rfl)).squeeze S1024x512 squeezes_S1x1024x512_S1024x512).view g y Finset.univ)) h = y := by
  have e := Memref.read_squeeze_slice (Val := Elt F) xbM (Rect.unit (s := S4x1024x1024) off S1x1024x512.size inb) (fun _ => rfl)
    squeezes_S1x1024x512_S1024x512 h
    (View.write (Elt F) ((xbM.slice (Rect.unit (s := S4x1024x1024) off S1x1024x512.size inb) (fun _ => rfl)).squeeze S1024x512 squeezes_S1x1024x512_S1024x512).view g y Finset.univ)
  rw [← e, View.read_write_univ]

/-- A weight slot is loaded as it was last written. -/
theorem load_wb (off : Fin 3 → ℕ) (inb : ∀ a, off a + S1x512x2048.size a ≤ S3x512x2048.size a) (g)
    (y : S512x2048.Idx → Elt F .f32) (L) (h : S1x512x2048.ShapeCasts S512x2048) :
    shapeCast S512x2048 (View.readAt (Elt F) wbM.view (Rect.unit (s := S3x512x2048) off S1x512x2048.size inb).toLoadRect
      (View.writes ((wbM.slice (Rect.unit (s := S3x512x2048) off S1x512x2048.size inb) (fun _ => rfl)).squeeze S512x2048 squeezes_S1x512x2048_S512x2048).view (Elt F) g (⟨Rect.whole S512x2048, y⟩ :: L))) h = y := by
  have e := Memref.read_squeeze_slice (Val := Elt F) wbM (Rect.unit (s := S3x512x2048) off S1x512x2048.size inb) (fun _ => rfl)
    squeezes_S1x512x2048_S512x2048 h
    (View.writes ((wbM.slice (Rect.unit (s := S3x512x2048) off S1x512x2048.size inb) (fun _ => rfl)).squeeze S512x2048 squeezes_S1x512x2048_S512x2048).view (Elt F) g (⟨Rect.whole S512x2048, y⟩ :: L))
  rw [← e, ← View.write_univ_eq_writes_whole, View.read_write_univ]

/-- Half `k` of the own slot, found in the buffer and in the slot. -/
theorem own_idx (k : Fin 2) (i : S1024x512.Idx) (inb : ∀ a, (![3, 0, 512 * k.val] : Fin 3 → ℕ) a + S1x1024x512.size a ≤ S4x1024x1024.size a) :
    (Rect.unit (s := S4x1024x1024) ![3, 0, 512 * k.val] S1x1024x512.size inb).toLoadRect.idx (Fin.cons ⟨0, Nat.one_pos⟩ i)
      = (Rect.unit (s := S4x1024x1024) ![3, 0, 0] S1x1024x1024.size inb_S4x1024x1024_S1x1024x1024_3_0_0).toLoadRect.idx
        (Fin.cons ⟨0, Nat.one_pos⟩ (ix2 (n0 := 1024) (n1 := 1024) (i 0)
          ⟨512 * k.val + (i 1).val, by have : (i 1).val < 512 := (i 1).isLt; have := k.isLt; omega⟩)) := by
  funext a
  apply Fin.ext
  match a with
  | ⟨0, _⟩ => rfl
  | ⟨1, _⟩ => rfl
  | ⟨2, _⟩ =>
    show 512 * k.val + 1 * (i 1).val = 0 + 1 * (512 * k.val + (i 1).val)
    omega

/-- The same, read. -/
theorem own_read (k : Fin 2) (i : S1024x512.Idx) (inb : ∀ a, (![3, 0, 512 * k.val] : Fin 3 → ℕ) a + S1x1024x512.size a ≤ S4x1024x1024.size a)
    (f : xbM.view.ty.Contents (Elt F)) :
    View.readAt (Elt F) xbM.view (Rect.unit (s := S4x1024x1024) ![3, 0, 512 * k.val] S1x1024x512.size inb).toLoadRect f (Fin.cons ⟨0, Nat.one_pos⟩ i)
      = View.readAt (Elt F) xbM.view (Rect.unit (s := S4x1024x1024) ![3, 0, 0] S1x1024x1024.size inb_S4x1024x1024_S1x1024x1024_3_0_0).toLoadRect f
        (Fin.cons ⟨0, Nat.one_pos⟩ (ix2 (n0 := 1024) (n1 := 1024) (i 0)
          ⟨512 * k.val + (i 1).val, by have : (i 1).val < 512 := (i 1).isLt; have := k.isLt; omega⟩)) :=
  congrArg (xbM.view.read (Elt F) f) (own_idx k i inb)

theorem casts_own : S1x1024x1024.ShapeCasts S1024x1024 := by decide

/-- The own slot is loaded as it was written, -/
theorem load_slot (g) (y : S1024x1024.Idx → Elt F .f32) :
    shapeCast S1024x1024 (View.readAt (Elt F) xbM.view (Rect.unit (s := S4x1024x1024) ![3, 0, 0] S1x1024x1024.size inb_S4x1024x1024_S1x1024x1024_3_0_0).toLoadRect
      (View.writes xbL.view (Elt F) g [⟨Rect.whole S1024x1024, y⟩])) casts_own = y :=
  (Memref.read_squeeze_slice (Val := Elt F) xbM (Rect.unit (s := S4x1024x1024) ![3, 0, 0] S1x1024x1024.size inb_S4x1024x1024_S1x1024x1024_3_0_0) (fun _ => rfl)
      squeezes_S1x1024x1024_S1024x1024 casts_own _).symm.trans (View.read_writes_whole _ _ _)

/-- The half of a load is the load of the half. -/
theorem half_load (k : Fin 2) (inb : ∀ a, (![3, 0, 512 * k.val] : Fin 3 → ℕ) a + S1x1024x512.size a ≤ S4x1024x1024.size a)
    (f : xbM.view.ty.Contents (Elt F)) (h : S1x1024x512.ShapeCasts S1024x512) (i : S1024x512.Idx) :
    shapeCast S1024x512 (View.readAt (Elt F) xbM.view (Rect.unit (s := S4x1024x1024) ![3, 0, 512 * k.val] S1x1024x512.size inb).toLoadRect f) h i
      = shapeCast S1024x1024 (View.readAt (Elt F) xbM.view (Rect.unit (s := S4x1024x1024) ![3, 0, 0] S1x1024x1024.size inb_S4x1024x1024_S1x1024x1024_3_0_0).toLoadRect f) casts_own
        (ix2 (n0 := 1024) (n1 := 1024) (i 0)
          ⟨512 * k.val + (i 1).val, by have : (i 1).val < 512 := (i 1).isLt; have := k.isLt; omega⟩) := by
  have e1 : ∀ f : S1x1024x512.Idx → Elt F .f32, shapeCast S1024x512 f h i = f (Fin.cons ⟨0, Nat.one_pos⟩ i) :=
    fun f => shapeCast_dropUnit_apply ![1024, 512] f h i
  have e2 : ∀ (f : S1x1024x1024.Idx → Elt F .f32) (j : S1024x1024.Idx), shapeCast S1024x1024 f casts_own j = f (Fin.cons ⟨0, Nat.one_pos⟩ j) :=
    fun f j => shapeCast_dropUnit_apply ![1024, 1024] f casts_own j
  rw [e1, e2]
  exact own_read k i inb f

/-- Half `k` of the own slot is loaded as half `k` of what was written there. -/
theorem load_own (c : Dev nD) (k : Fin 2) (off : Fin 3 → ℕ) (hoff : off = ![3, 0, 512 * k.val])
    (inb : ∀ a, off a + S1x1024x512.size a ≤ S4x1024x1024.size a) (g) (h : S1x1024x512.ShapeCasts S1024x512) :
    shapeCast S1024x512 (View.readAt (Elt F) xbM.view (Rect.unit (s := S4x1024x1024) off S1x1024x512.size inb).toLoadRect
      (View.writes xbL.view (Elt F) g [⟨Rect.whole S1024x1024, xdL m c⟩])) h = xo m c k := by
  subst hoff
  funext i
  refine (half_load k inb _ h i).trans ?_
  exact congrFun (load_slot g (xdL m c)) _

/-! ## The stores -/

/-- A load of one column group does not see a store to another. -/
theorem skip {a b : ℕ} (ha : ∀ x, (![0, a] : Fin 2 → ℕ) x + S1024x2048.size x ≤ S1024x8192.size x)
    (hb : ∀ x, (![0, b] : Fin 2 → ℕ) x + S1024x2048.size x ≤ S1024x8192.size x) (w : FVec F S1024x2048 .f32) (L)
    (h : a + 2048 ≤ b ∨ b + 2048 ≤ a) :
    oM.view.readCov (Val := Elt F) (⟨Rect.unit (s := S1024x8192) ![0, a] S1024x2048.size ha, w⟩ :: L)
        (Rect.unit (s := S1024x8192) ![0, b] S1024x2048.size hb).toLoadRect
      = oM.view.readCov (Val := Elt F) L (Rect.unit (s := S1024x8192) ![0, b] S1024x2048.size hb).toLoadRect := by
  refine View.readCov_cons_of_disjoint oM.view (⟨Rect.unit (s := S1024x8192) ![0, a] S1024x2048.size ha, w⟩ : View.Piece (Elt F) S1024x8192 .f32) L _ ?_
  show Disjoint (Rect.unit (s := S1024x8192) ![0, a] S1024x2048.size ha).set (Rect.unit (s := S1024x8192) ![0, b] S1024x2048.size hb).set
  rw [Finset.disjoint_left]
  intro y h1 h2
  rw [Rect.mem_set_unit] at h1 h2
  have h1 := h1 1
  have h2 := h2 1
  have e1 : (![0, a] : Fin 2 → ℕ) 1 = a := rfl
  have e2 : (![0, b] : Fin 2 → ℕ) 1 = b := rfl
  have e3 : S1024x2048.size 1 = 2048 := rfl
  rw [e1, e3] at h1
  rw [e2, e3] at h2
  omega

/-- An index of a stored column group reads what was stored, -/
theorem read_hit {a : ℕ} (ha : ∀ x, (![0, a] : Fin 2 → ℕ) x + S1024x2048.size x ≤ S1024x8192.size x) (o)
    (w : FVec F S1024x2048 .f32) (L) (i : S1024x8192.Idx) (hd : a % 2048 = 0) (h : a ≤ (i 1).val) (h' : (i 1).val < a + 2048) :
    oM.view.read (Elt F) (oM.view.writes (Elt F) o (⟨Rect.unit (s := S1024x8192) ![0, a] S1024x2048.size ha, w⟩ :: L)) i
      = w (ix2 (n0 := 1024) (n1 := 2048) (i 0) ⟨(i 1).val % 2048, Nat.mod_lt _ (by decide)⟩) := by
  refine View.read_writes_cons_unit_of_mem (Val := Elt F) oM.view o ha w L i
    (ix2 (n0 := 1024) (n1 := 2048) (i 0) ⟨(i 1).val % 2048, Nat.mod_lt _ (by decide)⟩) rfl ?_
  refine Fin.forall_fin_two.mpr ⟨?_, ?_⟩
  · exact (Nat.zero_add _).symm
  · show (i 1).val = a + (i 1).val % 2048
    omega

/-- and any other index what was there. -/
theorem read_miss {a : ℕ} (ha : ∀ x, (![0, a] : Fin 2 → ℕ) x + S1024x2048.size x ≤ S1024x8192.size x) (o)
    (w : FVec F S1024x2048 .f32) (L) (i : S1024x8192.Idx) (h : (i 1).val < a ∨ a + 2048 ≤ (i 1).val) :
    oM.view.read (Elt F) (oM.view.writes (Elt F) o (⟨Rect.unit (s := S1024x8192) ![0, a] S1024x2048.size ha, w⟩ :: L)) i
      = oM.view.read (Elt F) (oM.view.writes (Elt F) o L) i :=
  View.read_writes_cons_unit_of_not_mem (Val := Elt F) oM.view o ha w L i rfl (1 : Fin 2) h

/-- Where the column groups glued together are read. -/
theorem glue_at (a : Fin 4 → FVec F S1024x2048 .f32) (i : S1024x8192.Idx) (n : Fin 4) (h : 2048 * n.val ≤ (i 1).val)
    (h' : (i 1).val < 2048 * n.val + 2048) :
    glue a i = a n (ix2 (n0 := 1024) (n1 := 2048) (i 0) ⟨(i 1).val % 2048, Nat.mod_lt _ (by decide)⟩) := by
  have hn := n.isLt
  have : (⟨(i 1).val / 2048, by omega⟩ : Fin 4) = n := Fin.ext (by show (i 1).val / 2048 = n.val; omega)
  unfold glue
  rw [this]

/-- The four last stores are the four column groups, and cover the result. -/
theorem stores4 (o) (L) (h3 h2 h1 h0) (a3 a2 a1 a0 : FVec F S1024x2048 .f32) :
    oM.view.writes (Elt F) o (⟨Rect.unit (s := S1024x8192) ![0, 6144] S1024x2048.size h3, a3⟩ ::
      ⟨Rect.unit (s := S1024x8192) ![0, 4096] S1024x2048.size h2, a2⟩ ::
      ⟨Rect.unit (s := S1024x8192) ![0, 2048] S1024x2048.size h1, a1⟩ ::
      ⟨Rect.unit (s := S1024x8192) ![0, 0] S1024x2048.size h0, a0⟩ :: L) = glue ![a0, a1, a2, a3] := by
  suffices H : ∀ i : S1024x8192.Idx, oM.view.read (Elt F) (oM.view.writes (Elt F) o (⟨Rect.unit (s := S1024x8192) ![0, 6144] S1024x2048.size h3, a3⟩ ::
      ⟨Rect.unit (s := S1024x8192) ![0, 4096] S1024x2048.size h2, a2⟩ ::
      ⟨Rect.unit (s := S1024x8192) ![0, 2048] S1024x2048.size h1, a1⟩ ::
      ⟨Rect.unit (s := S1024x8192) ![0, 0] S1024x2048.size h0, a0⟩ :: L)) i = glue ![a0, a1, a2, a3] i from
    (View.read_whole (Val := Elt F) cc0_stg0_0 _).symm.trans (funext H)
  intro i
  have hi : (i 1).val < 8192 := (i 1).isLt
  by_cases c3 : 6144 ≤ (i 1).val
  · exact (read_hit h3 o a3 _ i (by decide) c3 hi).trans (glue_at ![a0, a1, a2, a3] i 3 c3 hi).symm
  refine (read_miss h3 o a3 _ i (Or.inl (by omega))).trans ?_
  by_cases c2 : 4096 ≤ (i 1).val
  · have c2' : (i 1).val < 2048 * 2 + 2048 := by omega
    exact (read_hit h2 o a2 _ i (by decide) c2 c2').trans (glue_at ![a0, a1, a2, a3] i 2 c2 c2').symm
  refine (read_miss h2 o a2 _ i (Or.inl (by omega))).trans ?_
  by_cases c1 : 2048 ≤ (i 1).val
  · have c1' : (i 1).val < 2048 * 1 + 2048 := by omega
    exact (read_hit h1 o a1 _ i (by decide) c1 c1').trans (glue_at ![a0, a1, a2, a3] i 1 c1 c1').symm
  refine (read_miss h1 o a1 _ i (Or.inl (by omega))).trans ?_
  have c0' : (i 1).val < 2048 * 0 + 2048 := by omega
  exact (read_hit h0 o a0 _ i (by decide) (Nat.zero_le _) c0').trans (glue_at ![a0, a1, a2, a3] i 0 (Nat.zero_le _) c0').symm

end Cert.KernelIdealProof

end
-- ==== Proof.BodyKernelIdeal.lean ====
module

public import proofs.«01_k».proof.Proof.ColKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv expect_bar expect_send expect_recv
  payload_bar0 payload_bar1 payload_bar2 payload_send0 payload_send1 payload_send2 payload_send3 payload_send4 payload_send5
  payload_recv0 payload_recv1 payload_recv2 payload_recv3 payload_recv4 payload_recv5 someP_eq holdsP_eq lentP_eq pr_pr0 pr_pr1 pr_pr2

/-- The invariants device `c` uses: its own thirteen cells', the peers' barriers and the receive cells it fills. -/
def invs (K : GSem nD τ sig → ℕ) (c : Dev nD) : sProp 𝕄 :=
  iprop(cellInv ER (rd m) (K (barCell c)) (barCell c)
    ∗ cellInv ER (rd m) (K (barCell (pr c 0))) (barCell (pr c 0))
    ∗ cellInv ER (rd m) (K (barCell (pr c 1))) (barCell (pr c 1))
    ∗ cellInv ER (rd m) (K (barCell (pr c 2))) (barCell (pr c 2))
    ∗ cellInv ER (rd m) (K (sendCell c 0)) (sendCell c 0)
    ∗ cellInv ER (rd m) (K (sendCell c 1)) (sendCell c 1)
    ∗ cellInv ER (rd m) (K (sendCell c 2)) (sendCell c 2)
    ∗ cellInv ER (rd m) (K (sendCell c 3)) (sendCell c 3)
    ∗ cellInv ER (rd m) (K (sendCell c 4)) (sendCell c 4)
    ∗ cellInv ER (rd m) (K (sendCell c 5)) (sendCell c 5)
    ∗ cellInv ER (rd m) (K (recvCell c 0)) (recvCell c 0)
    ∗ cellInv ER (rd m) (K (recvCell c 1)) (recvCell c 1)
    ∗ cellInv ER (rd m) (K (recvCell c 2)) (recvCell c 2)
    ∗ cellInv ER (rd m) (K (recvCell c 3)) (recvCell c 3)
    ∗ cellInv ER (rd m) (K (recvCell c 4)) (recvCell c 4)
    ∗ cellInv ER (rd m) (K (recvCell c 5)) (recvCell c 5)
    ∗ cellInv ER (rd m) (K (recvCell (pr c 0) 0)) (recvCell (pr c 0) 0)
    ∗ cellInv ER (rd m) (K (recvCell (pr c 0) 1)) (recvCell (pr c 0) 1)
    ∗ cellInv ER (rd m) (K (recvCell (pr c 1) 2)) (recvCell (pr c 1) 2)
    ∗ cellInv ER (rd m) (K (recvCell (pr c 1) 3)) (recvCell (pr c 1) 3)
    ∗ cellInv ER (rd m) (K (recvCell (pr c 2) 4)) (recvCell (pr c 2) 4)
    ∗ cellInv ER (rd m) (K (recvCell (pr c 2) 5)) (recvCell (pr c 2) 5))

/-- The round each cell it pays is at. -/
def marks (c : Dev nD) : sProp 𝕄 :=
  iprop(reached ER (barCell (pr c 0)) 0 ∗ reached ER (barCell (pr c 1)) 0 ∗ reached ER (barCell (pr c 2)) 0
    ∗ reached ER (sendCell c 0) 0 ∗ reached ER (sendCell c 1) 0 ∗ reached ER (sendCell c 2) 0
    ∗ reached ER (sendCell c 3) 0 ∗ reached ER (sendCell c 4) 0 ∗ reached ER (sendCell c 5) 0
    ∗ reached ER (recvCell (pr c 0) 0) 0 ∗ reached ER (recvCell (pr c 0) 1) 0 ∗ reached ER (recvCell (pr c 1) 2) 0
    ∗ reached ER (recvCell (pr c 1) 3) 0 ∗ reached ER (recvCell (pr c 2) 4) 0 ∗ reached ER (recvCell (pr c 2) 5) 0)

omit [FloatOps F] in
/-- What the barrier's three duties hand over, as one conjunction. -/
theorem bar_open {A B C : sProp 𝕄} : (BI.sep A (BI.sep B C) : sProp 𝕄) ⊢ iprop(A ∗ B ∗ C) := fun _ h => h

/-- A departure's credit, counted on the piece of `x` it leaves. -/
theorem cred_xs0 (c : Dev nD) : (cred (tallyAt (sendCell c 0) () 65536) : sProp 𝕄) ⊢ cred (tallyAt (sendCell c 0) () (xs0 c).view.dmaCredit) :=
  fun _ h => h
/-- A departure's credit, counted on the piece of `x` it leaves. -/
theorem cred_xs1 (c : Dev nD) : (cred (tallyAt (sendCell c 1) () 65536) : sProp 𝕄) ⊢ cred (tallyAt (sendCell c 1) () (xs1 c).view.dmaCredit) :=
  fun _ h => h
/-- A departure's credit, counted on the piece of `x` it leaves. -/
theorem cred_xs2 (c : Dev nD) : (cred (tallyAt (sendCell c 2) () 65536) : sProp 𝕄) ⊢ cred (tallyAt (sendCell c 2) () (xs2 c).view.dmaCredit) :=
  fun _ h => h
/-- A departure's credit, counted on the piece of `x` it leaves. -/
theorem cred_xs3 (c : Dev nD) : (cred (tallyAt (sendCell c 3) () 65536) : sProp 𝕄) ⊢ cred (tallyAt (sendCell c 3) () (xs3 c).view.dmaCredit) :=
  fun _ h => h
/-- A departure's credit, counted on the piece of `x` it leaves. -/
theorem cred_xs4 (c : Dev nD) : (cred (tallyAt (sendCell c 4) () 65536) : sProp 𝕄) ⊢ cred (tallyAt (sendCell c 4) () (xs4 c).view.dmaCredit) :=
  fun _ h => h
/-- A departure's credit, counted on the piece of `x` it leaves. -/
theorem cred_xs5 (c : Dev nD) : (cred (tallyAt (sendCell c 5) () 65536) : sProp 𝕄) ⊢ cred (tallyAt (sendCell c 5) () (xs5 c).view.dmaCredit) :=
  fun _ h => h

/-- What the body leaves: the result in the staging buffer, its cells' rounds done, its buffers at some contents, its
    own semaphores at zero, nothing owed. -/
def post (c : Dev nD) : sProp 𝕄 :=
  iprop((oM.view.loc (c : Thread nD τ) ↦{fullShare} outAt m c)
    ∗ atPos ER (barCell c) 1 ∅ 0
    ∗ (atPos ER (sendCell c 0) 1 ∅ 0 ∗ atPos ER (sendCell c 1) 1 ∅ 0 ∗ atPos ER (sendCell c 2) 1 ∅ 0
      ∗ atPos ER (sendCell c 3) 1 ∅ 0 ∗ atPos ER (sendCell c 4) 1 ∅ 0 ∗ atPos ER (sendCell c 5) 1 ∅ 0)
    ∗ (atPos ER (recvCell c 0) 1 ∅ 0 ∗ atPos ER (recvCell c 1) 1 ∅ 0 ∗ atPos ER (recvCell c 2) 1 ∅ 0
      ∗ atPos ER (recvCell c 3) 1 ∅ 0 ∗ atPos ER (recvCell c 4) 1 ∅ 0 ∗ atPos ER (recvCell c 5) 1 ∅ 0)
    ∗ (someP xb0 c ∗ someP xb1 c ∗ someP xb2 c ∗ someP xb3 c ∗ someP xb4 c ∗ someP xb5 c
      ∗ ∃ g : Buf (Elt F) ((c : Thread nD τ).loc cc0_scratch0), xbL.view.loc (c : Thread nD τ) ↦[xbL.view.set]{fullShare} g)
    ∗ ((∃ g : Buf (Elt F) ((c : Thread nD τ).loc cc0_scratch1), wb0.view.loc (c : Thread nD τ) ↦[wb0.view.set]{fullShare} g)
      ∗ (∃ g : Buf (Elt F) ((c : Thread nD τ).loc cc0_scratch1), wb1.view.loc (c : Thread nD τ) ↦[wb1.view.set]{fullShare} g)
      ∗ (∃ g : Buf (Elt F) ((c : Thread nD τ).loc cc0_scratch1), wb2.view.loc (c : Thread nD τ) ↦[wb2.view.set]{fullShare} g))
    ∗ (semVal ((c : Thread nD τ), SemLoc.dma (⟨13, by decide⟩ : DmaSem sig)) 0
      ∗ semVal ((c : Thread nD τ), SemLoc.dma (⟨14, by decide⟩ : DmaSem sig)) 0
      ∗ semVal ((c : Thread nD τ), SemLoc.dma (⟨15, by decide⟩ : DmaSem sig)) 0
      ∗ semVal ((c : Thread nD τ), SemLoc.dma (⟨16, by decide⟩ : DmaSem sig)) 0)
    ∗ ∃ W', owes (c : Thread nD τ) 0 W')

set_option sl_exec.stepHeartbeats 20000 in
set_option maxRecDepth 10000 in
set_option maxHeartbeats 2000000 in
/-- The body's run: from its share of the exchange to its result. -/
theorem body_run (K : GSem nD τ sig → ℕ) (c : Dev nD) (W : _)
    (f0 f1 f2 f3 f4 f5 fL : Buf (Elt F) ((c : Thread nD τ).loc cc0_scratch0))
    (b0 b1 b2 : Buf (Elt F) ((c : Thread nD τ).loc cc0_scratch1))
    (o : Buf (Elt F) ((c : Thread nD τ).loc cc0_stg0_0)) (Kt : PUnit → sProp 𝕄) :
    iprop(invs m K c ∗ marks c
      ∗ atPos ER (barCell c) 0 ∅ 0
      ∗ (atPos ER (sendCell c 0) 0 ∅ 0 ∗ atPos ER (sendCell c 1) 0 ∅ 0 ∗ atPos ER (sendCell c 2) 0 ∅ 0
        ∗ atPos ER (sendCell c 3) 0 ∅ 0 ∗ atPos ER (sendCell c 4) 0 ∅ 0 ∗ atPos ER (sendCell c 5) 0 ∅ 0)
      ∗ (atPos ER (recvCell c 0) 0 ∅ 0 ∗ atPos ER (recvCell c 1) 0 ∅ 0 ∗ atPos ER (recvCell c 2) 0 ∅ 0
        ∗ atPos ER (recvCell c 3) 0 ∅ 0 ∗ atPos ER (recvCell c 4) 0 ∅ 0 ∗ atPos ER (recvCell c 5) 0 ∅ 0)
      ∗ (dutyTok ER (barCell (pr c 0)) 0 2 ∗ dutyTok ER (barCell (pr c 1)) 0 1 ∗ dutyTok ER (barCell (pr c 2)) 0 0)
      ∗ (dutyTok ER (sendCell c 0) 0 0 ∗ dutyTok ER (sendCell c 1) 0 0 ∗ dutyTok ER (sendCell c 2) 0 0
        ∗ dutyTok ER (sendCell c 3) 0 0 ∗ dutyTok ER (sendCell c 4) 0 0 ∗ dutyTok ER (sendCell c 5) 0 0)
      ∗ (dutyTok ER (recvCell (pr c 0) 0) 0 0 ∗ dutyTok ER (recvCell (pr c 0) 1) 0 0 ∗ dutyTok ER (recvCell (pr c 1) 2) 0 0
        ∗ dutyTok ER (recvCell (pr c 1) 3) 0 0 ∗ dutyTok ER (recvCell (pr c 2) 4) 0 0 ∗ dutyTok ER (recvCell (pr c 2) 5) 0 0)
      ∗ (cred (tallyAt (barCell c) () 3)
        ∗ cred (tallyAt (recvCell c 0) () NN) ∗ cred (tallyAt (recvCell c 1) () NN) ∗ cred (tallyAt (recvCell c 2) () NN)
        ∗ cred (tallyAt (recvCell c 3) () NN) ∗ cred (tallyAt (recvCell c 4) () NN) ∗ cred (tallyAt (recvCell c 5) () NN))
      ∗ owes (c : Thread nD τ) (O₀ c) W ∗ levAts L lv
      ∗ ((xsL c).view.loc (c : Thread nD τ) ↦[(xsL c).view.set]{Transfers.shareTokN fullShare 6} m ((c : Thread nD τ).loc main_arg0))
      ∗ ((xs0 c).view.loc (c : Thread nD τ) ↦[(xs0 c).view.set]{Transfers.shareTokN fullShare 0} m ((c : Thread nD τ).loc main_arg0))
      ∗ ((xs1 c).view.loc (c : Thread nD τ) ↦[(xs1 c).view.set]{Transfers.shareTokN fullShare 1} m ((c : Thread nD τ).loc main_arg0))
      ∗ ((xs4 c).view.loc (c : Thread nD τ) ↦[(xs4 c).view.set]{Transfers.shareTokN fullShare 4} m ((c : Thread nD τ).loc main_arg0))
      ∗ ((xs5 c).view.loc (c : Thread nD τ) ↦[(xs5 c).view.set]{Transfers.shareTokN fullShare 5} m ((c : Thread nD τ).loc main_arg0))
      ∗ ((xs2 c).view.loc (c : Thread nD τ) ↦[(xs2 c).view.set]{Transfers.shareTokN fullShare 2} m ((c : Thread nD τ).loc main_arg0))
      ∗ ((xs3 c).view.loc (c : Thread nD τ) ↦[(xs3 c).view.set]{Transfers.shareTokN fullShare 3} m ((c : Thread nD τ).loc main_arg0))
      ∗ (wM.view.loc (c : Thread nD τ) ↦{Transfers.shareTokN fullShare 14} m ((c : Thread nD τ).loc main_arg1))
      ∗ (wM.view.loc (c : Thread nD τ) ↦{Transfers.shareTokN fullShare 15} m ((c : Thread nD τ).loc main_arg1))
      ∗ (wM.view.loc (c : Thread nD τ) ↦{Transfers.shareTokN fullShare 16} m ((c : Thread nD τ).loc main_arg1))
      ∗ (xb4.view.loc (c : Thread nD τ) ↦[xb4.view.set]{fullShare} f4)
      ∗ (xb5.view.loc (c : Thread nD τ) ↦[xb5.view.set]{fullShare} f5)
      ∗ (xb2.view.loc (c : Thread nD τ) ↦[xb2.view.set]{fullShare} f2)
      ∗ (xb3.view.loc (c : Thread nD τ) ↦[xb3.view.set]{fullShare} f3)
      ∗ (xb0.view.loc (c : Thread nD τ) ↦[xb0.view.set]{fullShare} f0)
      ∗ (xb1.view.loc (c : Thread nD τ) ↦[xb1.view.set]{fullShare} f1)
      ∗ (xbL.view.loc (c : Thread nD τ) ↦[xbL.view.set]{fullShare} fL)
      ∗ (wb0.view.loc (c : Thread nD τ) ↦[wb0.view.set]{fullShare} b0)
      ∗ (wb1.view.loc (c : Thread nD τ) ↦[wb1.view.set]{fullShare} b1)
      ∗ (wb2.view.loc (c : Thread nD τ) ↦[wb2.view.set]{fullShare} b2)
      ∗ (oM.view.loc (c : Thread nD τ) ↦{fullShare} o)
      ∗ semVal ((c : Thread nD τ), SemLoc.dma (⟨13, by decide⟩ : DmaSem sig)) 0
      ∗ semVal ((c : Thread nD τ), SemLoc.dma (⟨14, by decide⟩ : DmaSem sig)) 0
      ∗ semVal ((c : Thread nD τ), SemLoc.dma (⟨15, by decide⟩ : DmaSem sig)) 0
      ∗ semVal ((c : Thread nD τ), SemLoc.dma (⟨16, by decide⟩ : DmaSem sig)) 0
      ∗ (post m c -∗ |={Set.univ}=> Kt PUnit.unit))
      ⊢ wp frame (wpE (defs₀ (F := F)) 𝒱₀ c none) Set.univ
          (cc0_body xM (Memref.isWhole_whole _) wM (Memref.isWhole_whole _) oM (Memref.isWhole_whole _)
            xbM (Memref.isWhole_whole _) wbM (Memref.isWhole_whole _) cc0_scratch2 cc0_scratch3 cc0_scratch4 cc0_scratch5) Kt := by
  unfold invs marks O₀ O6 O2
  rw [cc0_body_eq_skeleton]
  unfold cc0_body_skel
  iintro ⟨⟨#I0, #I1, #I2, #I3, #I4, #I5, #I6, #I7, #I8, #I9, #I10, #I11, #I12, #I13, #I14, #I15, #I16, #I17, #I18, #I19, #I20, #I21⟩,
    ⟨#R0, #R1, #R2, #R3, #R4, #R5, #R6, #R7, #R8, #R9, #R10, #R11, #R12, #R13, #R14⟩,
    HatB, ⟨HatS0, HatS1, HatS2, HatS3, HatS4, HatS5⟩, ⟨HatV0, HatV1, HatV2, HatV3, HatV4, HatV5⟩,
    ⟨HtB0, HtB1, HtB2⟩, ⟨HtS0, HtS1, HtS2, HtS3, HtS4, HtS5⟩, ⟨HtV0, HtV1, HtV2, HtV3, HtV4, HtV5⟩,
    ⟨HcB, HcV0, HcV1, HcV2, HcV3, HcV4, HcV5⟩, HO, #Hlev,
    HxL, Hx0, Hx1, Hx4, Hx5, Hx2, Hx3, Hw0, Hw1, Hw2, Hf4, Hf5, Hf2, Hf3, Hf0, Hf1, HfL, Hb0, Hb1, Hb2, Ho, Hs0, Hs1, Hs2, Hs3, HK⟩
  have hd1 := dev1_eq c
  have hd2 := dev2_eq c
  have hd3 := dev3_eq c
  have hd4 := dev4_eq c
  have hd5 := dev5_eq c
  have hd6 := dev6_eq c
  have hd7 := dev7_eq c
  have hd8 := dev8_eq c
  have hd9 := dev9_eq c
  have hmwB := mayWait_of_above (F := F) (c := c) (sm := .reg barS) (above_O6 1 (le_refl _) c)
  have hmwX := mayWait_of_above (F := F) (c := c) (sm := .dma ⟨13, by decide⟩) (above_O2 0 (by omega) c)
  have hmwW0 := mayWait_of_above (F := F) (c := c) (sm := .dma ⟨14, by decide⟩) (above_O2 0 (by omega) c)
  have hmwW1 := mayWait_of_above (F := F) (c := c) (sm := .dma ⟨15, by decide⟩) (above_O2 0 (by omega) c)
  have hmwW2 := mayWait_of_above (F := F) (c := c) (sm := .dma ⟨16, by decide⟩) (above_O2 0 (by omega) c)
  have hmwS0 := mayWait_of_above (F := F) (c := c) (sm := .dma (sS 0)) (above_O2 0 (by omega) c)
  have hmwS1 := mayWait_of_above (F := F) (c := c) (sm := .dma (sS 1)) (above_O2 0 (by omega) c)
  have hmwS4 := mayWait_of_above (F := F) (c := c) (sm := .dma (sS 4)) (above_O2 0 (by omega) c)
  have hmwS5 := mayWait_of_above (F := F) (c := c) (sm := .dma (sS 5)) (above_O2 0 (by omega) c)
  have hmwV0 := mayWait_of_above (F := F) (c := c) (sm := .dma (rS 0)) (above_O2 2 (by omega) c)
  have hmwV1 := mayWait_of_above (F := F) (c := c) (sm := .dma (rS 1)) (above_O2 2 (by omega) c)
  have hmwV4 := mayWait_of_above (F := F) (c := c) (sm := .dma (rS 4)) (above_O2 2 (by omega) c)
  have hmwV5 := mayWait_of_above (F := F) (c := c) (sm := .dma (rS 5)) (above_O2 2 (by omega) c)
  unfold O6 O2 at hmwB
  unfold O2 at hmwX hmwW0 hmwW1 hmwW2 hmwS0 hmwS1 hmwS4 hmwS5 hmwV0 hmwV1 hmwV4 hmwV5
  sl_exec_parts
  ihave HB := bar_open (F := F) $$ HatB_pay1
  icases HB with ⟨⟨⟨%g0, Hg0⟩, ⟨%g1, Hg1⟩⟩, ⟨⟨%g2, Hg2⟩, ⟨%g3, Hg3⟩⟩, ⟨%g4, Hg4⟩, ⟨%g5, Hg5⟩⟩
  sl_exec_parts
  ihave HcS0 := cred_xs0 (F := F) c $$ Hx0_cred
  ihave HcS1 := cred_xs1 (F := F) c $$ Hx1_cred
  ihave HcS4 := cred_xs4 (F := F) c $$ Hx4_cred
  ihave HcS5 := cred_xs5 (F := F) c $$ Hx5_cred
  sl_exec_parts
  ihave HcS2 := cred_xs2 (F := F) c $$ Hx2_cred
  ihave HcS3 := cred_xs3 (F := F) c $$ Hx3_cred
  sl_exec_parts
  have hx0 := fun g y => load_xb (F := F) ![0, 0, 0] inb_S4x1024x1024_S1x1024x512_0_0_0 g y shapeCasts_S1x1024x512_S1024x512
  have hx1 := fun g y => load_xb (F := F) ![0, 0, 512] inb_S4x1024x1024_S1x1024x512_0_0_512 g y shapeCasts_S1x1024x512_S1024x512
  have hx2 := fun g y => load_xb (F := F) ![1, 0, 0] inb_S4x1024x1024_S1x1024x512_1_0_0 g y shapeCasts_S1x1024x512_S1024x512
  have hx3 := fun g y => load_xb (F := F) ![1, 0, 512] inb_S4x1024x1024_S1x1024x512_1_0_512 g y shapeCasts_S1x1024x512_S1024x512
  have hx4 := fun g y => load_xb (F := F) ![2, 0, 0] inb_S4x1024x1024_S1x1024x512_2_0_0 g y shapeCasts_S1x1024x512_S1024x512
  have hx5 := fun g y => load_xb (F := F) ![2, 0, 512] inb_S4x1024x1024_S1x1024x512_2_0_512 g y shapeCasts_S1x1024x512_S1024x512
  have hw0 := fun g y L => load_wb (F := F) ![0, 0, 0] inb_S3x512x2048_S1x512x2048_0_0_0 g y L shapeCasts_S1x512x2048_S512x2048
  have hw1 := fun g y L => load_wb (F := F) ![1, 0, 0] inb_S3x512x2048_S1x512x2048_1_0_0 g y L shapeCasts_S1x512x2048_S512x2048
  have hw2 := fun g y L => load_wb (F := F) ![2, 0, 0] inb_S3x512x2048_S1x512x2048_2_0_0 g y L shapeCasts_S1x512x2048_S512x2048
  have ho0 := fun g => load_own (F := F) m c 0 ![3, 0, 0] rfl inb_S4x1024x1024_S1x1024x512_3_0_0 g shapeCasts_S1x1024x512_S1024x512
  have ho1 := fun g => load_own (F := F) m c 1 ![3, 0, 512] rfl inb_S4x1024x1024_S1x1024x512_3_0_512 g shapeCasts_S1x1024x512_S1024x512
  have e : oM.view.writes (Elt F) o (⟨Rect.unit (s := S1024x8192) ![0, 6144] S1024x2048.size inb_S1024x8192_S1024x2048_0_6144,
        k0_pay1 (body_run.sl.r_6 m c HatV3_pay1_v) (body_run.sl.v1129 m c HatV0_pay1_v HatV4_pay1_v HatV1_pay1_v HatV5_pay1_v HatV2_pay1_v HatV3_pay1_v)⟩
      :: body_run.sl.Ho_31 m c HatV0_pay1_v HatV4_pay1_v HatV1_pay1_v HatV5_pay1_v HatV2_pay1_v HatV3_pay1_v) = outAt m c := by
    delta
      body_run.sl.Ho_10 body_run.sl.Ho_11 body_run.sl.Ho_12 body_run.sl.Ho_13 body_run.sl.Ho_14 body_run.sl.Ho_15
      body_run.sl.Ho_17 body_run.sl.Ho_18 body_run.sl.Ho_19 body_run.sl.Ho_2 body_run.sl.Ho_20 body_run.sl.Ho_21
      body_run.sl.Ho_22 body_run.sl.Ho_23 body_run.sl.Ho_24 body_run.sl.Ho_25 body_run.sl.Ho_26 body_run.sl.Ho_27
      body_run.sl.Ho_28 body_run.sl.Ho_29 body_run.sl.Ho_3 body_run.sl.Ho_30 body_run.sl.Ho_31 body_run.sl.Ho_4
      body_run.sl.Ho_5 body_run.sl.Ho_6 body_run.sl.Ho_7 body_run.sl.Ho_8 body_run.sl.Ho_9 body_run.sl.cst_348
      body_run.sl.dma0 body_run.sl.dma0_1 body_run.sl.dma0_2 body_run.sl.dma0_3 body_run.sl.dma0_4 body_run.sl.dma10
      body_run.sl.dma10_1 body_run.sl.dma10_2 body_run.sl.dma10_3 body_run.sl.dma10_4 body_run.sl.dma12
      body_run.sl.dma15 body_run.sl.dma15_1 body_run.sl.dma15_2 body_run.sl.dma15_3 body_run.sl.dma15_4
      body_run.sl.dma16 body_run.sl.dma20 body_run.sl.dma20_1 body_run.sl.dma20_2 body_run.sl.dma20_3
      body_run.sl.dma21 body_run.sl.dma26 body_run.sl.dma31 body_run.sl.dma36 body_run.sl.dma4 body_run.sl.dma5
      body_run.sl.dma5_1 body_run.sl.dma5_2 body_run.sl.dma5_3 body_run.sl.dma5_4 body_run.sl.dma5_5 body_run.sl.dma8
      body_run.sl.r body_run.sl.r_1 body_run.sl.r_2 body_run.sl.r_3 body_run.sl.r_4 body_run.sl.r_5 body_run.sl.r_6
      body_run.sl.v1018 body_run.sl.v1021 body_run.sl.v1041 body_run.sl.v1044 body_run.sl.v1071 body_run.sl.v1074
      body_run.sl.v1094 body_run.sl.v1097 body_run.sl.v1110 body_run.sl.v1113 body_run.sl.v1126 body_run.sl.v1129
      body_run.sl.v334 body_run.sl.v395 body_run.sl.v415 body_run.sl.v418 body_run.sl.v438 body_run.sl.v441
      body_run.sl.v461 body_run.sl.v464 body_run.sl.v484 body_run.sl.v487 body_run.sl.v514 body_run.sl.v517
      body_run.sl.v537 body_run.sl.v540 body_run.sl.v560 body_run.sl.v563 body_run.sl.v583 body_run.sl.v586
      body_run.sl.v613 body_run.sl.v616 body_run.sl.v636 body_run.sl.v639 body_run.sl.v659 body_run.sl.v662
      body_run.sl.v682 body_run.sl.v685 body_run.sl.v774 body_run.sl.v777 body_run.sl.v797 body_run.sl.v800
      body_run.sl.v820 body_run.sl.v823 body_run.sl.v843 body_run.sl.v846 body_run.sl.v873 body_run.sl.v876
      body_run.sl.v896 body_run.sl.v899 body_run.sl.v919 body_run.sl.v922 body_run.sl.v942 body_run.sl.v945
      body_run.sl.v972 body_run.sl.v975 body_run.sl.v995 body_run.sl.v998
    simp -proj (disch := decide) only [
      k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, shapeCast_self, View.readCov_cons_toLoadRect, skip, hx0, hx1,
      hx2, hx3, hx4, hx5, hw0, hw1, hw2, ho0, ho1]
    rw [stores4]
    unfold outAt
    refine congrArg glue (funext fun n => ?_)
    match n with
    | ⟨0, _⟩ => rfl
    | ⟨1, _⟩ => rfl
    | ⟨2, _⟩ => rfl
    | ⟨3, _⟩ => rfl
  rw [wp_ret]
  iapply HK
  unfold post someP
  isplitl [Ho]
  · rw [← e]; iexact Ho
  isplitl [HatB]
  · iexact HatB
  isplitl [HatS0 HatS1 HatS2 HatS3 HatS4 HatS5]
  · isplitl [HatS0]
    · iexact HatS0
    isplitl [HatS1]
    · iexact HatS1
    isplitl [HatS2]
    · iexact HatS2
    isplitl [HatS3]
    · iexact HatS3
    isplitl [HatS4]
    · iexact HatS4
    iexact HatS5
  isplitl [HatV0 HatV1 HatV2 HatV3 HatV4 HatV5]
  · isplitl [HatV0]
    · iexact HatV0
    isplitl [HatV1]
    · iexact HatV1
    isplitl [HatV2]
    · iexact HatV2
    isplitl [HatV3]
    · iexact HatV3
    isplitl [HatV4]
    · iexact HatV4
    iexact HatV5
  isplitl [HatV0_pay1 HatV1_pay1 HatV2_pay1 HatV3_pay1 HatV4_pay1 HatV5_pay1 HfL]
  · isplitl [HatV0_pay1]
    · iexists _; iexact HatV0_pay1
    isplitl [HatV1_pay1]
    · iexists _; iexact HatV1_pay1
    isplitl [HatV2_pay1]
    · iexists _; iexact HatV2_pay1
    isplitl [HatV3_pay1]
    · iexists _; iexact HatV3_pay1
    isplitl [HatV4_pay1]
    · iexists _; iexact HatV4_pay1
    isplitl [HatV5_pay1]
    · iexists _; iexact HatV5_pay1
    iexists _; iexact HfL
  isplitl [Hb0 Hb1 Hb2]
  · isplitl [Hb0]
    · iexists _; iexact Hb0
    isplitl [Hb1]
    · iexists _; iexact Hb1
    iexists _; iexact Hb2
  isplitl [Hs0 Hs1 Hs2 Hs3]
  · isplitl [Hs0]
    · iexact Hs0
    isplitl [Hs1]
    · iexact Hs1
    isplitl [Hs2]
    · iexact Hs2
    iexact Hs3
  iexists _; iexact HO

end Cert.KernelIdealProof

end
-- ==== Proof.DealKernelIdeal.lean ====
/-
  What the launch deals each device: the exchange's cells with their invariants, positions and duty tokens, the credits
  of its waits, its pieces of `x` and `w`, and the two scratch buffers cut into the slots the body names.
-/
module

public import proofs.«01_k».proof.Proof.BodyKernelIdeal
public import Idealize.ShloMosaic.Lib.Ring
public import Idealize.ShloMosaic.Lib.Exec

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

set_option backward.proofsInPublic true in
/-- The semaphores of the exchange: the barrier, then the six send and the six receive semaphores. -/
def csem : Fin 13 → SemLoc sig := Fin.cases (.reg barS) fun j => .dma ⟨1 + j.val, by have := j.isLt; show 1 + j.val < 17; omega⟩
set_option backward.proofsInPublic true in
/-- The kernel's own semaphores. -/
def osem : Fin 16 → SemLoc sig := fun i => .dma ⟨1 + i.val, by have := i.isLt; show 1 + i.val < 17; omega⟩

abbrev kcell (ck : Dev nD × Fin 13) : GSem nD τ sig := ((ck.1 : Thread nD τ), csem ck.2)

theorem csem_injective : Function.Injective csem := by decide
theorem kcell_injective : Function.Injective (kcell : Dev nD × Fin 13 → GSem nD τ sig) := fun a b h =>
  Prod.ext (congrArg (fun g : GSem nD τ sig => g.1.1) h) (csem_injective (congrArg Prod.snd h))

/-- The exchange's cells. -/
def cellsX : Finset (GSem nD τ sig) := Finset.univ.map ⟨kcell, kcell_injective⟩

theorem mem_cells (c : Dev nD) (k : Fin 13) : kcell (c, k) ∈ cellsX := Finset.mem_map_of_mem _ (Finset.mem_univ (c, k))
theorem mem_bar (c : Dev nD) : barCell c ∈ cellsX := mem_cells c 0
theorem csem_send : ∀ j : Fin 6, csem ⟨1 + j.val, by omega⟩ = .dma (sS j) := by decide
theorem csem_recv : ∀ j : Fin 6, csem ⟨7 + j.val, by omega⟩ = .dma (rS j) := by decide
theorem mem_send (c : Dev nD) (j : Fin 6) : sendCell c j ∈ cellsX := by
  have h := mem_cells c ⟨1 + j.val, by omega⟩
  rwa [show kcell (c, ⟨1 + j.val, by omega⟩) = sendCell c j from congrArg (Prod.mk _) (csem_send j)] at h
theorem mem_recv (c : Dev nD) (j : Fin 6) : recvCell c j ∈ cellsX := by
  have h := mem_cells c ⟨7 + j.val, by omega⟩
  rwa [show kcell (c, ⟨7 + j.val, by omega⟩) = recvCell c j from congrArg (Prod.mk _) (csem_recv j)] at h

/-- The duties of one device's cells: the three of its barrier cell, and one of each transfer cell. -/
def tokS : Fin 15 → SemLoc sig × Fin 3
  | 0 => (.reg barS, 0) | 1 => (.reg barS, 1) | 2 => (.reg barS, 2)
  | 3 => (.dma (sS 0), 0) | 4 => (.dma (sS 1), 0) | 5 => (.dma (sS 2), 0) | 6 => (.dma (sS 3), 0) | 7 => (.dma (sS 4), 0) | 8 => (.dma (sS 5), 0)
  | 9 => (.dma (rS 0), 0) | 10 => (.dma (rS 1), 0) | 11 => (.dma (rS 2), 0) | 12 => (.dma (rS 3), 0) | 13 => (.dma (rS 4), 0) | 14 => (.dma (rS 5), 0)
theorem tokS_injective : Function.Injective tokS := by decide

abbrev tokOf (cj : Dev nD × Fin 15) : GSem nD τ sig × ℕ × Fin 3 := (((cj.1 : Thread nD τ), (tokS cj.2).1), 0, (tokS cj.2).2)
theorem tokOf_injective : Function.Injective (tokOf : Dev nD × Fin 15 → GSem nD τ sig × ℕ × Fin 3) := fun a b h =>
  Prod.ext (congrArg (fun x : GSem nD τ sig × ℕ × Fin 3 => x.1.1.1) h)
    (tokS_injective (Prod.ext (congrArg (fun x : GSem nD τ sig × ℕ × Fin 3 => x.1.2) h) (congrArg (fun x : GSem nD τ sig × ℕ × Fin 3 => x.2.2) h)))
/-- The duty tokens. -/
def toksX : Finset (GSem nD τ sig × ℕ × Fin 3) := Finset.univ.map ⟨tokOf, tokOf_injective⟩

/-- The launch's ghost state. -/
def u₀ : UU := (initOf (Pipeline.cells cfgs cellOf_inj) (Pipeline.launchToks cfgs cellOf_inj), (initOf cellsX toksX, (1 : Counters)))

/-- The exchange's part of it, handed to one device (the global step deals it). -/
def G (c : Dev nD) : sProp 𝕄 := if c = 0 then BI.own (ER (initOf cellsX toksX)) else iprop(emp)

/-- The duty tokens of device `c`'s own cells; -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (sendCell c 3) 0 0 ∗ dutyTok ER (sendCell c 4) 0 0 ∗ dutyTok ER (sendCell c 5) 0 0
    ∗ dutyTok ER (recvCell c 0) 0 0 ∗ dutyTok ER (recvCell c 1) 0 0 ∗ dutyTok ER (recvCell c 2) 0 0
    ∗ dutyTok ER (recvCell c 3) 0 0 ∗ dutyTok ER (recvCell c 4) 0 0 ∗ dutyTok ER (recvCell c 5) 0 0)
/-- the tokens of the duties it pays. -/
def payToks (c : Dev nD) : sProp 𝕄 :=
  iprop((dutyTok ER (barCell (pr c 0)) 0 2 ∗ dutyTok ER (barCell (pr c 1)) 0 1 ∗ dutyTok ER (barCell (pr c 2)) 0 0)
    ∗ (dutyTok ER (sendCell c 0) 0 0 ∗ dutyTok ER (sendCell c 1) 0 0 ∗ dutyTok ER (sendCell c 2) 0 0
      ∗ dutyTok ER (sendCell c 3) 0 0 ∗ dutyTok ER (sendCell c 4) 0 0 ∗ dutyTok ER (sendCell c 5) 0 0)
    ∗ (dutyTok ER (recvCell (pr c 0) 0) 0 0 ∗ dutyTok ER (recvCell (pr c 0) 1) 0 0 ∗ dutyTok ER (recvCell (pr c 1) 2) 0 0
      ∗ dutyTok ER (recvCell (pr c 1) 3) 0 0 ∗ dutyTok ER (recvCell (pr c 2) 4) 0 0 ∗ dutyTok ER (recvCell (pr c 2) 5) 0 0))

/-- Device `c`'s positions, at round `r`. -/
def spots (c : Dev nD) (r : ℕ) : sProp 𝕄 :=
  iprop(atPos ER (barCell c) r ∅ 0
    ∗ (atPos ER (sendCell c 0) r ∅ 0 ∗ atPos ER (sendCell c 1) r ∅ 0 ∗ atPos ER (sendCell c 2) r ∅ 0
      ∗ atPos ER (sendCell c 3) r ∅ 0 ∗ atPos ER (sendCell c 4) r ∅ 0 ∗ atPos ER (sendCell c 5) r ∅ 0)
    ∗ (atPos ER (recvCell c 0) r ∅ 0 ∗ atPos ER (recvCell c 1) r ∅ 0 ∗ atPos ER (recvCell c 2) r ∅ 0
      ∗ atPos ER (recvCell c 3) r ∅ 0 ∗ atPos ER (recvCell c 4) r ∅ 0 ∗ atPos ER (recvCell c 5) r ∅ 0))

/-- The semaphores of the local copies, at zero. -/
def locals (c : Dev nD) : sProp 𝕄 :=
  iprop(semVal ((c : Thread nD τ), SemLoc.dma (⟨13, by decide⟩ : DmaSem sig)) 0
    ∗ semVal ((c : Thread nD τ), SemLoc.dma (⟨14, by decide⟩ : DmaSem sig)) 0
    ∗ semVal ((c : Thread nD τ), SemLoc.dma (⟨15, by decide⟩ : DmaSem sig)) 0
    ∗ semVal ((c : Thread nD τ), SemLoc.dma (⟨16, by decide⟩ : DmaSem sig)) 0)

omit [FloatOps F] in
/-- Over the thirteen cells, listed. -/
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
/-- Over the fifteen duties, listed. -/
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The positions as a family over the thirteen cells. -/
theorem spots_of (c : Dev nD) (r : ℕ) : (bigSep Finset.univ fun k : Fin 13 => (atPos ER (kcell (c, k)) r ∅ 0 : sProp 𝕄)) ⊢ spots c r := by
  rw [bigSep_fin13]; unfold spots
  iintro ⟨H0, H1, H2, H3, H4, H5, H6, H7, H8, H9, H10, H11, H12⟩
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [H9]; · iexact H9
  isplitl [H10]; · iexact H10
  isplitl [H11]; · iexact H11
  iexact H12

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
      ∗ semVal (kcell (c, 5)) 0 ∗ semVal (kcell (c, 6)) 0 ∗ semVal (kcell (c, 7)) 0 ∗ semVal (kcell (c, 8)) 0
      ∗ semVal (kcell (c, 9)) 0 ∗ semVal (kcell (c, 10)) 0 ∗ semVal (kcell (c, 11)) 0 ∗ semVal (kcell (c, 12)) 0 ∗ locals c) := by
  rw [Pipeline.ownSems0_eq_of_list c osem [0, 1, 2, 3, 4, 5, 6, 7, 8, 9, 10, 11, 12, 13, 14, 15] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: its thirteen cells' and the local copies'; -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ locals c) : sProp 𝕄) := by
  rw [ownSems0_eq, unscopedSems0_eq, bigSep_fin13]
  iintro ⟨⟨H1, H2, H3, H4, H5, H6, H7, H8, H9, H10, H11, H12, HL⟩, H0⟩
  isplitr [HL]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact HL
omit [FloatOps F] in
/-- and back. -/
theorem sems0_join (c : Dev nD) :
    (iprop((bigSep Finset.univ fun k : Fin 13 => semVal (kcell (c, k)) 0) ∗ locals c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, bigSep_fin13]
  iintro ⟨⟨H0, H1, H2, H3, H4, H5, H6, H7, H8, H9, H10, H11, H12⟩, HL⟩
  isplitr [H0]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HL
  iexact H0

/-! ## The global step -/

/-- All the exchange's records: every cell's invariant, and that it has reached round 0. -/
def records (K : GSem nD τ sig → ℕ) : sProp 𝕄 :=
  iprop((bigSep cellsX fun g => cellInv ER (rd m) (K g) g) ∗ bigSep cellsX fun g => reached ER g 0)
instance records_persistent (K) : BI.Persistent (records (F := F) m K) := by unfold records; infer_instance

omit [FloatOps F] in
/-- One of a family. -/
theorem at_one {I : Type} [DecidableEq I] {S : Finset I} {i : I} {Φ : I → sProp 𝕄} (h : i ∈ S) : bigSep S Φ ⊢ Φ i := bigSep_elim h

omit [FloatOps F] in
theorem inv_at (K : GSem nD τ sig → ℕ) {g : GSem nD τ sig} (h : g ∈ cellsX) : records (F := F) m K ⊢ cellInv ER (rd m) (K g) g := by
  unfold records
  iintro ⟨H, -⟩
  iapply (at_one (Φ := fun g => cellInv ER (rd m) (K g) g) h); iexact H
omit [FloatOps F] in
theorem reached_at (K : GSem nD τ sig → ℕ) {g : GSem nD τ sig} (h : g ∈ cellsX) : records (F := F) m K ⊢ reached ER g 0 := by
  unfold records
  iintro ⟨-, H⟩
  iapply (at_one (Φ := fun g => (reached ER g 0 : sProp 𝕄)) h); iexact H

instance invs_persistent (K) (c : Dev nD) : BI.Persistent (invs (F := F) m K c) := by unfold invs; infer_instance
instance marks_persistent (c : Dev nD) : BI.Persistent (marks (F := F) c) := by unfold marks; infer_instance

/-- The exchange's state device `c` starts from: at some names, the records it uses, its positions, the tokens it pays
    with; and the semaphores of its local copies. -/
def G' (c : Dev nD) : sProp 𝕄 := iprop((∃ K, invs m K c ∗ marks c ∗ (bigSep Finset.univ fun k : Fin 13 => cellInv ER (rd m) (K (kcell (c, k))) (kcell (c, k)))
  ∗ spots c 0 ∗ payToks c) ∗ locals c)

/-- What stays with device `c` in the deal. -/
def linear (c : Dev nD) : sProp 𝕄 := iprop((bigSep Finset.univ fun k : Fin 13 => atPos ER (kcell (c, k)) 0 ∅ 0) ∗ payToks c ∗ locals c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem invs_intro (K : GSem nD τ sig → ℕ) (c : Dev nD) : records (F := F) m K ⊢ invs m K c := by
  unfold invs
  iintro #H
  iterate 21
    isplitr
    · iapply (inv_at m K (by first | exact mem_bar _ | exact mem_send _ _ | exact mem_recv _ _)); iexact H
  iapply (inv_at m K (mem_recv _ _)); iexact H
omit [FloatOps F] in
theorem marks_intro (K : GSem nD τ sig → ℕ) (c : Dev nD) : records (F := F) m K ⊢ marks c := by
  unfold marks
  iintro #H
  iterate 14
    isplitr
    · iapply (reached_at m K (by first | exact mem_bar _ | exact mem_send _ _ | exact mem_recv _ _)); iexact H
  iapply (reached_at m K (mem_recv _ _)); iexact H
omit [FloatOps F] in
theorem own_invs (K : GSem nD τ sig → ℕ) (c : Dev nD) :
    records (F := F) m K ⊢ bigSep Finset.univ fun k : Fin 13 => cellInv ER (rd m) (K (kcell (c, k))) (kcell (c, k)) :=
  (BI.bigSep_of_persistent Finset.univ (records m K)).trans (bigSep_mono fun k _ => inv_at m K (mem_cells c k))

omit [FloatOps F] in
theorem start_of (K : GSem nD τ sig → ℕ) (c : Dev nD) : iprop(records (F := F) m K ∗ linear c) ⊢ G' m c := by
  unfold linear G'
  iintro ⟨#HR, Hat, Htok, HL⟩
  isplitr [HL]
  · iexists K
    isplitr; · iapply (invs_intro m K c); iexact HR
    isplitr; · iapply (marks_intro m K c); iexact HR
    isplitr; · iapply (own_invs m K c); iexact HR
    isplitl [Hat]; · iapply (spots_of c 0); iexact Hat
    iexact Htok
  iexact HL

/-- The devices, moved `i + 1` places on. -/
def rot (i : Fin 3) : Dev nD ≃ Dev nD where
  toFun c := pr c i
  invFun c := pr c (2 - i)
  left_inv c := by revert c i; decide
  right_inv c := by revert c i; decide

omit [FloatOps F] in
theorem around (i : Fin 3) (Φ : Dev nD → sProp 𝕄) : bigSep Finset.univ Φ ⊢ bigSep Finset.univ fun c => Φ (pr c i) :=
  Entails.of_eq (bigSep_univ_equiv (rot i) Φ)

omit [FloatOps F] in
/-- The tokens dealt to the devices that pay with them. -/
theorem toks_around : (bigSep Finset.univ fun c : Dev nD => (toks c : sProp 𝕄)) ⊢ bigSep Finset.univ fun c : Dev nD => payToks c := by
  unfold toks payToks
  simp only [bigSep_sep']
  iintro ⟨B0, B1, B2, S0, S1, S2, S3, S4, S5, V0, V1, V2, V3, V4, V5⟩
  isplitl [B0 B1 B2]
  · isplitl [B2]; · iapply (around 0 fun c => (dutyTok ER (barCell c) 0 2 : sProp 𝕄)); iexact B2
    isplitl [B1]; · iapply (around 1 fun c => (dutyTok ER (barCell c) 0 1 : sProp 𝕄)); iexact B1
    iapply (around 2 fun c => (dutyTok ER (barCell c) 0 0 : sProp 𝕄)); iexact B0
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [V0]; · iapply (around 0 fun c => (dutyTok ER (recvCell c 0) 0 0 : sProp 𝕄)); iexact V0
  isplitl [V1]; · iapply (around 0 fun c => (dutyTok ER (recvCell c 1) 0 0 : sProp 𝕄)); iexact V1
  isplitl [V2]; · iapply (around 1 fun c => (dutyTok ER (recvCell c 2) 0 0 : sProp 𝕄)); iexact V2
  isplitl [V3]; · iapply (around 1 fun c => (dutyTok ER (recvCell c 3) 0 0 : sProp 𝕄)); iexact V3
  isplitl [V4]; · iapply (around 2 fun c => (dutyTok ER (recvCell c 4) 0 0 : sProp 𝕄)); iexact V4
  iapply (around 2 fun c => (dutyTok ER (recvCell c 5) 0 0 : sProp 𝕄)); iexact V5

omit [FloatOps F] in
theorem cells_eq (Φ : GSem nD τ sig → sProp 𝕄) : bigSep cellsX Φ = bigSep Finset.univ fun c : Dev nD => bigSep Finset.univ fun k : Fin 13 => Φ (kcell (c, k)) := by
  unfold cellsX; rw [bigSep_map, bigSep_univ_prod]; rfl
omit [FloatOps F] in
theorem toks_eq : bigSep toksX (fun x => (dutyTok ER x.1 x.2.1 x.2.2 : sProp 𝕄)) = bigSep Finset.univ fun c : Dev nD => toks c := by
  unfold toksX; rw [bigSep_map, bigSep_univ_prod]
  exact bigSep_congr fun c _ => by unfold toks; rw [bigSep_fin15]; rfl

omit [FloatOps F] in
/-- The global step: from every device's semaphores at zero and the exchange's state, what each starts from. -/
theorem glob : (bigSep Finset.univ fun c => iprop(Pipeline.ownSems0 (Ix := Unit) (Name := ℕ) (U := UU) (Lvl := ℕ) (Val := Elt F) (τ := τ) osem c ∗ unscopedSems0 c ∗ G c) : sProp 𝕄)
    ⊢ |={Set.univ}=> bigSep Finset.univ (G' m) := by
  have h1 : (bigSep Finset.univ fun c => iprop(Pipeline.ownSems0 (Ix := Unit) (Name := ℕ) (U := UU) (Lvl := ℕ) (Val := Elt F) (τ := τ) osem c ∗ unscopedSems0 c ∗ G c) : sProp 𝕄)
      ⊢ bigSep Finset.univ fun c : Dev nD => iprop(((bigSep Finset.univ fun k : Fin 13 => semVal (kcell (c, k)) 0) ∗ locals c) ∗ G c) :=
    bigSep_mono fun c _ => by
      show (_ : sProp 𝕄) ⊢ _
      iintro ⟨H1, H2, H3⟩
      isplitr [H3]
      · iapply (sems0_split c); isplitl [H1] <;> iassumption
      iexact H3
  refine h1.trans ?_
  rw [bigSep_sep', bigSep_sep', ← cells_eq fun g => (semVal g 0 : sProp 𝕄)]
  iintro ⟨⟨Hv, HL⟩, HG⟩
  ihave Hx := (at_one (Φ := fun c : Dev nD => (G c : sProp 𝕄)) (Finset.mem_univ 0)) $$ HG
  ihave Hx' := (Entails.of_eq (show (G 0 : sProp 𝕄) = BI.own (ER (initOf cellsX toksX)) from if_pos rfl)) $$ Hx
  imod (Rounds.fund ER (rd m) cellsX toksX) $$ Hx' with ⟨Hst, #Hr, Hat, Htok⟩
  ihave Hb := (Rounds.bodies_intro ER (rd m) cellsX) $$ [Hv Hst]
  · isplitl [Hv] <;> iassumption
  imod (inv_alloc_family cellsX (Rounds.body ER (rd m)) ∅) $$ Hb with ⟨%K, -, #HI⟩
  ihave Hat' := (Entails.of_eq (cells_eq fun g => (atPos ER g 0 ∅ 0 : sProp 𝕄))) $$ Hat
  ihave Htok' := ((Entails.of_eq toks_eq).trans (toks_around (F := F))) $$ Htok
  imodintro
  iapply (bigSep_with_persistent (R := records m K) (Φ := linear) fun c _ => start_of m K c)
  isplitr
  · unfold records
    isplitr; · iexact HI
    iexact Hr
  unfold linear
  simp only [bigSep_sep']
  isplitl [Hat']; · iexact Hat'
  isplitl [Htok']; · iexact Htok'
  iexact HL

/-! ## The credits -/

/-- Over the devices, a tally each keeps for the cell of the device `i + 1` places on. -/
theorem sum_tally (i : Fin 3) (sm sm' : SemLoc sig) (n : ℕ) (c : Dev nD) :
    ∑ d : Dev nD, (tallyAt ((pr d i : Thread nD τ), sm') () n : CellTallies nD τ sig Unit) ((c : Thread nD τ), sm) () = if sm = sm' then n else 0 := by
  rw [Finset.sum_eq_single (pr c (2 - i))]
  · rw [show pr (pr c (2 - i)) i = c from (rot i).right_inv c, tallyAt_apply]
    by_cases h : sm = sm'
    · subst h; rw [if_pos ⟨rfl, rfl⟩, if_pos rfl]
    · rw [if_neg (fun h' => h (congrArg Prod.snd h'.1)), if_neg h]
  · intro d _ hd
    rw [tallyAt_apply]
    exact if_neg fun h' => hd (by
      have h1 : c = pr d i := congrArg (fun g : GSem nD τ sig => g.1.1) h'.1
      rw [h1]; exact ((rot i).left_inv d).symm)
  · intro h; exact absurd (Finset.mem_univ _) h

/-- What all devices together owe a semaphore of device `c`. -/
theorem sum_owed (c : Dev nD) (sm : SemLoc sig) : ∑ d : Dev nD, O₀ d ((c : Thread nD τ), sm) ()
    = (if sm = .dma (rS 3) then NN else 0) + (if sm = .dma (rS 2) then NN else 0) + (if sm = .dma (rS 5) then NN else 0)
      + (if sm = .dma (rS 4) then NN else 0) + (if sm = .dma (rS 1) then NN else 0) + (if sm = .dma (rS 0) then NN else 0)
      + (if sm = .reg barS then 1 else 0) + (if sm = .reg barS then 1 else 0) + (if sm = .reg barS then 1 else 0) := by
  unfold O₀ O6 O2
  simp only [Pi.add_apply, Finsupp.add_apply, Finset.sum_add_distrib]
  rw [sum_tally, sum_tally, sum_tally, sum_tally, sum_tally, sum_tally, sum_tally, sum_tally, sum_tally]

omit [FloatOps F] in
theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (barCell c) () = 3 := by
  rw [sum_owed, if_neg (fun h => by cases h), if_neg (fun h => by cases h), if_neg (fun h => by cases h), if_neg (fun h => by cases h),
    if_neg (fun h => by cases h), if_neg (fun h => by cases h), if_pos rfl]
theorem owed_recv (c : Dev nD) (j : Fin 6) : ∑ d : Dev nD, O₀ d (recvCell c j) () = NN := by
  rw [sum_owed, if_neg (c := SemLoc.dma (rS j) = .reg barS) (fun h => by cases h)]
  have hj : ∀ k : Fin 6, (SemLoc.dma (rS j) : SemLoc sig) = .dma (rS k) ↔ j = k := by revert j; decide
  simp only [hj]
  fin_cases j <;> rfl

/-- The credits of device `c`'s waits. -/
def waitCreds (c : Dev nD) : sProp 𝕄 :=
  iprop(cred (tallyAt (barCell c) () 3)
    ∗ cred (tallyAt (recvCell c 0) () NN) ∗ cred (tallyAt (recvCell c 1) () NN) ∗ cred (tallyAt (recvCell c 2) () NN)
    ∗ cred (tallyAt (recvCell c 3) () NN) ∗ cred (tallyAt (recvCell c 4) () NN) ∗ cred (tallyAt (recvCell c 5) () NN))

omit [FloatOps F] in
theorem creds (c : Dev nD) : (Pipeline.launchCred O₀ c : sProp 𝕄) ⊢ waitCreds c := by
  unfold Pipeline.launchCred waitCreds
  refine Entails.trans (show _ ⊢ _ from bigSep_subset (Finset.subset_univ ([SemLoc.reg barS, .dma (rS 0), .dma (rS 1), .dma (rS 2), .dma (rS 3), .dma (rS 4), .dma (rS 5)] : List (SemLoc sig)).toFinset)) (Entails.of_eq ?_)
  rw [bigSep_eq_bigSepL_of_eq _ rfl (by decide)]
  rw [← launch_at c _ 3 (owed_bar c), ← launch_at c _ NN (owed_recv c 0), ← launch_at c _ NN (owed_recv c 1), ← launch_at c _ NN (owed_recv c 2),
    ← launch_at c _ NN (owed_recv c 3), ← launch_at c _ NN (owed_recv c 4), ← launch_at c _ NN (owed_recv c 5)]
  rfl

/-! ## The arguments' pieces -/

/-- Device `c`'s pieces of `x` and shares of `w`, as its body takes them. -/
def ins (c : Dev nD) : sProp 𝕄 :=
  iprop(((xsL c).view.loc (c : Thread nD τ) ↦[(xsL c).view.set]{Transfers.shareTokN fullShare 6} m ((c : Thread nD τ).loc main_arg0))
    ∗ ((xs0 c).view.loc (c : Thread nD τ) ↦[(xs0 c).view.set]{Transfers.shareTokN fullShare 0} m ((c : Thread nD τ).loc main_arg0))
    ∗ ((xs1 c).view.loc (c : Thread nD τ) ↦[(xs1 c).view.set]{Transfers.shareTokN fullShare 1} m ((c : Thread nD τ).loc main_arg0))
    ∗ ((xs4 c).view.loc (c : Thread nD τ) ↦[(xs4 c).view.set]{Transfers.shareTokN fullShare 4} m ((c : Thread nD τ).loc main_arg0))
    ∗ ((xs5 c).view.loc (c : Thread nD τ) ↦[(xs5 c).view.set]{Transfers.shareTokN fullShare 5} m ((c : Thread nD τ).loc main_arg0))
    ∗ ((xs2 c).view.loc (c : Thread nD τ) ↦[(xs2 c).view.set]{Transfers.shareTokN fullShare 2} m ((c : Thread nD τ).loc main_arg0))
    ∗ ((xs3 c).view.loc (c : Thread nD τ) ↦[(xs3 c).view.set]{Transfers.shareTokN fullShare 3} m ((c : Thread nD τ).loc main_arg0))
    ∗ (wM.view.loc (c : Thread nD τ) ↦{Transfers.shareTokN fullShare 14} m ((c : Thread nD τ).loc main_arg1))
    ∗ (wM.view.loc (c : Thread nD τ) ↦{Transfers.shareTokN fullShare 15} m ((c : Thread nD τ).loc main_arg1))
    ∗ (wM.view.loc (c : Thread nD τ) ↦{Transfers.shareTokN fullShare 16} m ((c : Thread nD τ).loc main_arg1)))

/-- What is left of the two arguments, at their launch contents. -/
def kept (c : Dev nD) : sProp 𝕄 :=
  iprop((((c : Thread nD τ).loc main_arg0) ↦{Transfers.shareDrop fullShare 7} m ((c : Thread nD τ).loc main_arg0))
    ∗ (((c : Thread nD τ).loc main_arg1) ↦{Transfers.shareDrop fullShare 17} m ((c : Thread nD τ).loc main_arg1)))

omit [FloatOps F] in
/-- Part of a buffer held whole. -/
theorem part_of {ℓ : Loc nD τ sig} (I : Finset (Idx ℓ)) (q : PosShare TreeShare) (f : Buf (Elt F) ℓ) : (ℓ ↦{q} f : sProp 𝕄) ⊢ ℓ ↦[I]{q} f :=
  (pointsTo_split_subset (Finset.subset_univ I)).1.trans sep_elim_left

omit [FloatOps F] in
theorem range7 (Φ : ℕ → sProp 𝕄) : bigSep (Finset.range 7) Φ ⊢ iprop(Φ 6 ∗ Φ 0 ∗ Φ 1 ∗ Φ 4 ∗ Φ 5 ∗ Φ 2 ∗ Φ 3) :=
  Entails.of_eq (bigSep_eq_bigSepL_of_eq [6, 0, 1, 4, 5, 2, 3] (by decide) (by decide) Φ)
omit [FloatOps F] in
theorem range17 (Φ : ℕ → sProp 𝕄) : bigSep (Finset.range 17) Φ ⊢ iprop(Φ 14 ∗ Φ 15 ∗ Φ 16) :=
  Entails.trans (show _ ⊢ _ from bigSep_subset (t := {14, 15, 16}) (by decide)) (Entails.of_eq (bigSep_eq_bigSepL_of_eq [14, 15, 16] (by decide) (by decide) Φ))

omit [FloatOps F] in
theorem ins_intro (c : Dev nD) :
    iprop((((c : Thread nD τ).loc main_arg0) ↦{fullShare} m ((c : Thread nD τ).loc main_arg0)) ∗ (((c : Thread nD τ).loc main_arg1) ↦{fullShare} m ((c : Thread nD τ).loc main_arg1)))
      ⊢ (iprop(ins m c ∗ kept m c) : sProp 𝕄) := by
  have hx := range7 fun i => (((c : Thread nD τ).loc main_arg0) ↦{Transfers.shareTokN fullShare i} m ((c : Thread nD τ).loc main_arg0) : sProp 𝕄)
  have hw := range17 fun i => (((c : Thread nD τ).loc main_arg1) ↦{Transfers.shareTokN fullShare i} m ((c : Thread nD τ).loc main_arg1) : sProp 𝕄)
  unfold ins kept
  iintro ⟨Hx, Hw⟩
  ihave Hx' := ((Transfers.pointsTo_toks_range fullShare 7).1.trans (sep_mono_right hx)) $$ Hx
  ihave Hw' := ((Transfers.pointsTo_toks_range fullShare 17).1.trans (sep_mono_right hw)) $$ Hw
  icases Hx' with ⟨HxD, H6, H0, H1, H4, H5, H2, H3⟩
  icases Hw' with ⟨HwD, W0, W1, W2⟩
  isplitr [HxD HwD]
  · isplitl [H6]; · iapply (part_of (xsL c).view.set); iexact H6
    isplitl [H0]; · iapply (part_of (xs0 c).view.set); iexact H0
    isplitl [H1]; · iapply (part_of (xs1 c).view.set); iexact H1
    isplitl [H4]; · iapply (part_of (xs4 c).view.set); iexact H4
    isplitl [H5]; · iapply (part_of (xs5 c).view.set); iexact H5
    isplitl [H2]; · iapply (part_of (xs2 c).view.set); iexact H2
    isplitl [H3]; · iapply (part_of (xs3 c).view.set); iexact H3
    isplitl [W0]; · iexact W0
    isplitl [W1]; · iexact W1
    iexact W2
  isplitl [HxD]; · iexact HxD
  iexact HwD

/-! ## The scratch buffers' slots -/

/-- The rectangle of half slot `b` (`b < 6`), or of the own slot. -/
def xR (b : Fin 7) : Rect S4x1024x1024 := Rect.unit (s := S4x1024x1024) ![b.val / 2, 0, 512 * (b.val % 2)] ![1, 1024, if b.val < 6 then 512 else 1024]
  (by revert b; decide)
/-- The rectangle of weight slot `b`. -/
def wR (b : Fin 3) : Rect S3x512x2048 := Rect.unit (s := S3x512x2048) ![b.val, 0, 0] ![1, 512, 2048] (by revert b; decide)

theorem mem_xR (b : Fin 7) (i : S4x1024x1024.Idx) :
    i ∈ (xR b).set ↔ (i 0).val = b.val / 2 ∧ 512 * (b.val % 2) ≤ (i 2).val ∧ (i 2).val < 512 * (b.val % 2) + if b.val < 6 then 512 else 1024 := by
  have h1 : (i 1).val < 1024 := (i 1).isLt
  unfold xR
  rw [Rect.mem_set_unit]
  constructor
  · intro h
    have h0 := h 0; have h2 := h 2
    simp at h0 h2
    omega
  · rintro ⟨h0, h2⟩ a
    fin_cases a <;> simp <;> omega
theorem mem_wR (b : Fin 3) (i : S3x512x2048.Idx) : i ∈ (wR b).set ↔ (i 0).val = b.val := by
  have h1 : (i 1).val < 512 := (i 1).isLt
  have h2 : (i 2).val < 2048 := (i 2).isLt
  unfold wR
  rw [Rect.mem_set_unit]
  constructor
  · intro h
    have h0 := h 0
    simp at h0
    omega
  · rintro h0 a
    fin_cases a <;> simp <;> omega

theorem xR_disjoint (b b' : Fin 7) (h : b ≠ b') : Disjoint (xR b).set (xR b').set :=
  Finset.disjoint_left.mpr fun i hi hi' => by
    rw [mem_xR] at hi hi'
    have hb : b.val ≠ b'.val := fun h' => h (Fin.ext h')
    have := b.isLt; have := b'.isLt
    split at hi <;> split at hi' <;> omega
theorem xR_cover : Finset.univ.biUnion (fun b => (xR b).set) = Finset.univ :=
  Finset.eq_univ_iff_forall.mpr fun i => by
    have h0 : (i 0).val < 4 := (i 0).isLt
    have h2 : (i 2).val < 1024 := (i 2).isLt
    refine Finset.mem_biUnion.mpr ⟨⟨if (i 0).val = 3 then 6 else 2 * (i 0).val + (i 2).val / 512, by split <;> omega⟩, Finset.mem_univ _, ?_⟩
    rw [mem_xR]
    dsimp only
    split <;> split <;> omega
theorem wR_disjoint (b b' : Fin 3) (h : b ≠ b') : Disjoint (wR b).set (wR b').set :=
  Finset.disjoint_left.mpr fun i hi hi' => by
    rw [mem_wR] at hi hi'
    exact h (Fin.ext (hi.symm.trans hi'))
theorem wR_cover : Finset.univ.biUnion (fun b => (wR b).set) = Finset.univ :=
  Finset.eq_univ_iff_forall.mpr fun i =>
    Finset.mem_biUnion.mpr ⟨⟨(i 0).val, (i 0).isLt⟩, Finset.mem_univ _, (mem_wR _ _).mpr rfl⟩

theorem xb0_set : xb0.view.set = (xR 0).set := (Memref.set_view_squeeze _ _).trans (View.set_slice_whole _ _)
theorem xb1_set : xb1.view.set = (xR 1).set := (Memref.set_view_squeeze _ _).trans (View.set_slice_whole _ _)
theorem xb2_set : xb2.view.set = (xR 2).set := (Memref.set_view_squeeze _ _).trans (View.set_slice_whole _ _)
theorem xb3_set : xb3.view.set = (xR 3).set := (Memref.set_view_squeeze _ _).trans (View.set_slice_whole _ _)
theorem xb4_set : xb4.view.set = (xR 4).set := (Memref.set_view_squeeze _ _).trans (View.set_slice_whole _ _)
theorem xb5_set : xb5.view.set = (xR 5).set := (Memref.set_view_squeeze _ _).trans (View.set_slice_whole _ _)
theorem xbL_set : xbL.view.set = (xR 6).set := (Memref.set_view_squeeze _ _).trans (View.set_slice_whole _ _)
theorem wb0_set : wb0.view.set = (wR 0).set := (Memref.set_view_squeeze _ _).trans (View.set_slice_whole _ _)
theorem wb1_set : wb1.view.set = (wR 1).set := (Memref.set_view_squeeze _ _).trans (View.set_slice_whole _ _)
theorem wb2_set : wb2.view.set = (wR 2).set := (Memref.set_view_squeeze _ _).trans (View.set_slice_whole _ _)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

section Cut
variable {ℓ : Loc nD τ sig}

omit [FloatOps F] in
theorem split7 (J : Fin 7 → Finset (Idx ℓ)) (hd : ∀ b b', b ≠ b' → Disjoint (J b) (J b')) (hc : Finset.univ.biUnion J = Finset.univ) (f : Buf (Elt F) ℓ) :
    (ℓ ↦{fullShare} f : sProp 𝕄) ⊢ iprop((ℓ ↦[J 0]{fullShare} f) ∗ (ℓ ↦[J 1]{fullShare} f) ∗ (ℓ ↦[J 2]{fullShare} f) ∗ (ℓ ↦[J 3]{fullShare} f)
      ∗ (ℓ ↦[J 4]{fullShare} f) ∗ (ℓ ↦[J 5]{fullShare} f) ∗ (ℓ ↦[J 6]{fullShare} f)) :=
  Entails.of_eq ((Ring.pointsTo_blocks J hd hc f).trans (bigSep_fin7 _))
omit [FloatOps F] in
theorem join7 (J : Fin 7 → Finset (Idx ℓ)) (hd : ∀ b b', b ≠ b' → Disjoint (J b) (J b')) (hc : Finset.univ.biUnion J = Finset.univ) (f₀ : Buf (Elt F) ℓ) :
    (iprop((∃ f, ℓ ↦[J 0]{fullShare} f) ∗ (∃ f, ℓ ↦[J 1]{fullShare} f) ∗ (∃ f, ℓ ↦[J 2]{fullShare} f) ∗ (∃ f, ℓ ↦[J 3]{fullShare} f)
      ∗ (∃ f, ℓ ↦[J 4]{fullShare} f) ∗ (∃ f, ℓ ↦[J 5]{fullShare} f) ∗ (∃ f, ℓ ↦[J 6]{fullShare} f)) : sProp 𝕄) ⊢ iprop(∃ f, ℓ ↦{fullShare} f) :=
  (Entails.of_eq (bigSep_fin7 fun b => iprop(∃ f, ℓ ↦[J b]{fullShare} f)).symm).trans (Ring.pointsTo_blocks_join_exists J hd hc f₀)
omit [FloatOps F] in
theorem split3 (J : Fin 3 → Finset (Idx ℓ)) (hd : ∀ b b', b ≠ b' → Disjoint (J b) (J b')) (hc : Finset.univ.biUnion J = Finset.univ) (f : Buf (Elt F) ℓ) :
    (ℓ ↦{fullShare} f : sProp 𝕄) ⊢ iprop((ℓ ↦[J 0]{fullShare} f) ∗ (ℓ ↦[J 1]{fullShare} f) ∗ (ℓ ↦[J 2]{fullShare} f)) :=
  Entails.of_eq ((Ring.pointsTo_blocks J hd hc f).trans (bigSep_fin3 _))
omit [FloatOps F] in
theorem join3 (J : Fin 3 → Finset (Idx ℓ)) (hd : ∀ b b', b ≠ b' → Disjoint (J b) (J b')) (hc : Finset.univ.biUnion J = Finset.univ) (f₀ : Buf (Elt F) ℓ) :
    (iprop((∃ f, ℓ ↦[J 0]{fullShare} f) ∗ (∃ f, ℓ ↦[J 1]{fullShare} f) ∗ (∃ f, ℓ ↦[J 2]{fullShare} f)) : sProp 𝕄) ⊢ iprop(∃ f, ℓ ↦{fullShare} f) :=
  (Entails.of_eq (bigSep_fin3 fun b => iprop(∃ f, ℓ ↦[J b]{fullShare} f)).symm).trans (Ring.pointsTo_blocks_join_exists J hd hc f₀)

end Cut

/-- The slots of device `c`'s receive buffer, and of its weight buffer. -/
def xJ (c : Dev nD) (b : Fin 7) : Finset (Idx ((c : Thread nD τ).loc cc0_scratch0)) := (xR b).set
def wJ (c : Dev nD) (b : Fin 3) : Finset (Idx ((c : Thread nD τ).loc cc0_scratch1)) := (wR b).set

omit [FloatOps F] in
/-- The receive buffer cut into the six half slots and the own slot; -/
theorem xb_split (c : Dev nD) (f : Buf (Elt F) ((c : Thread nD τ).loc cc0_scratch0)) :
    (((c : Thread nD τ).loc cc0_scratch0) ↦{fullShare} f : sProp 𝕄)
      ⊢ iprop((xb4.view.loc (c : Thread nD τ) ↦[xb4.view.set]{fullShare} f) ∗ (xb5.view.loc (c : Thread nD τ) ↦[xb5.view.set]{fullShare} f)
        ∗ (xb2.view.loc (c : Thread nD τ) ↦[xb2.view.set]{fullShare} f) ∗ (xb3.view.loc (c : Thread nD τ) ↦[xb3.view.set]{fullShare} f)
        ∗ (xb0.view.loc (c : Thread nD τ) ↦[xb0.view.set]{fullShare} f) ∗ (xb1.view.loc (c : Thread nD τ) ↦[xb1.view.set]{fullShare} f)
        ∗ (xbL.view.loc (c : Thread nD τ) ↦[xbL.view.set]{fullShare} f)) := by
  rw [xb0_set, xb1_set, xb2_set, xb3_set, xb4_set, xb5_set, xbL_set]
  refine (split7 (xJ c) xR_disjoint xR_cover f).trans ?_
  iintro ⟨H0, H1, H2, H3, H4, H5, H6⟩
  isplitl [H4]; · iexact H4
  isplitl [H5]; · iexact H5
  isplitl [H2]; · iexact H2
  isplitl [H3]; · iexact H3
  isplitl [H0]; · iexact H0
  isplitl [H1]; · iexact H1
  iexact H6

omit [FloatOps F] in
/-- and joined again, each at some contents. -/
theorem xb_join (c : Dev nD) (f₀ : Buf (Elt F) ((c : Thread nD τ).loc cc0_scratch0)) :
    (iprop(someP xb0 c ∗ someP xb1 c ∗ someP xb2 c ∗ someP xb3 c ∗ someP xb4 c ∗ someP xb5 c
      ∗ ∃ g : Buf (Elt F) ((c : Thread nD τ).loc cc0_scratch0), xbL.view.loc (c : Thread nD τ) ↦[xbL.view.set]{fullShare} g) : sProp 𝕄)
      ⊢ iprop(∃ f : Buf (Elt F) ((c : Thread nD τ).loc cc0_scratch0), ((c : Thread nD τ).loc cc0_scratch0) ↦{fullShare} f) := by
  unfold someP
  rw [xb0_set, xb1_set, xb2_set, xb3_set, xb4_set, xb5_set, xbL_set]
  exact join7 (xJ c) xR_disjoint xR_cover f₀

omit [FloatOps F] in
/-- The weight buffer cut into its three slots; -/
theorem wb_split (c : Dev nD) (f : Buf (Elt F) ((c : Thread nD τ).loc cc0_scratch1)) :
    (((c : Thread nD τ).loc cc0_scratch1) ↦{fullShare} f : sProp 𝕄)
      ⊢ iprop((wb0.view.loc (c : Thread nD τ) ↦[wb0.view.set]{fullShare} f) ∗ (wb1.view.loc (c : Thread nD τ) ↦[wb1.view.set]{fullShare} f)
        ∗ (wb2.view.loc (c : Thread nD τ) ↦[wb2.view.set]{fullShare} f)) := by
  rw [wb0_set, wb1_set, wb2_set]
  exact split3 (wJ c) wR_disjoint wR_cover f

omit [FloatOps F] in
/-- and joined again. -/
theorem wb_join (c : Dev nD) (f₀ : Buf (Elt F) ((c : Thread nD τ).loc cc0_scratch1)) :
    (iprop((∃ g : Buf (Elt F) ((c : Thread nD τ).loc cc0_scratch1), wb0.view.loc (c : Thread nD τ) ↦[wb0.view.set]{fullShare} g)
      ∗ (∃ g : Buf (Elt F) ((c : Thread nD τ).loc cc0_scratch1), wb1.view.loc (c : Thread nD τ) ↦[wb1.view.set]{fullShare} g)
      ∗ (∃ g : Buf (Elt F) ((c : Thread nD τ).loc cc0_scratch1), wb2.view.loc (c : Thread nD τ) ↦[wb2.view.set]{fullShare} g)) : sProp 𝕄)
      ⊢ iprop(∃ f : Buf (Elt F) ((c : Thread nD τ).loc cc0_scratch1), ((c : Thread nD τ).loc cc0_scratch1) ↦{fullShare} f) := by
  rw [wb0_set, wb1_set, wb2_set]
  exact join3 (wJ c) wR_disjoint wR_cover f₀

end Cert.KernelIdealProof

end
-- ==== Proof.RunKernelIdeal.lean ====
/-
  The launch: the body's obligation from what each device is dealt to what it leaves, and the run of the whole mesh,
  with every device's result array at `outAt`, its arguments unchanged and every semaphore at zero.
-/
module

public import proofs.«01_k».proof.Proof.DealKernelIdeal
public import Idealize.ShloMosaic.Lib.Pipeline.Kit
public import Idealize.ShloMosaic.Lib.Pipeline.Value
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells closed -/

omit [FloatOps F] in
/-- One of its cells closed: its round is done and no other follows, so its counter is zero. -/
theorem close_one (K : GSem nD τ sig → ℕ) (c : Dev nD) (k : Fin 13) :
    iprop((bigSep Finset.univ fun k : Fin 13 => cellInv ER (rd m) (K (kcell (c, k))) (kcell (c, k))) ∗ atPos ER (kcell (c, k)) 1 ∅ 0)
      ⊢ |={Set.univ}=> (semVal (kcell (c, k)) 0 : sProp 𝕄) := by
  iintro ⟨HI, Hat⟩
  ihave HIk := (at_one (Φ := fun k : Fin 13 => cellInv ER (rd m) (K (kcell (c, k))) (kcell (c, k))) (Finset.mem_univ k)) $$ HI
  imod (Rounds.cell_close ER (rd m) (Set.mem_univ (K (kcell (c, k)))) (fun h => h) (R := 0 + 1) (duties_later m (kcell (c, k)))) $$ [HIk Hat] with Hz
  · isplitl [HIk]; · iexact HIk
    iexact Hat
  imodintro; iexact Hz

omit [FloatOps F] in
/-- All thirteen closed. -/
theorem close_all (K : GSem nD τ sig → ℕ) (c : Dev nD) :
    iprop((bigSep Finset.univ fun k : Fin 13 => cellInv ER (rd m) (K (kcell (c, k))) (kcell (c, k))) ∗ spots c 1)
      ⊢ |={Set.univ}=> (bigSep Finset.univ fun k : Fin 13 => semVal (kcell (c, k)) 0 : sProp 𝕄) := by
  rw [bigSep_fin13 fun k : Fin 13 => (semVal (kcell (c, k)) 0 : sProp 𝕄)]
  unfold spots
  iintro ⟨#HI, H0, ⟨H1, H2, H3, H4, H5, H6⟩, H7, H8, H9, H10, H11, H12⟩
  imod (close_one m K c 0) $$ [H0] with Z0
  · isplitr; · iexact HI
    iexact H0
  imod (close_one m K c 1) $$ [H1] with Z1
  · isplitr; · iexact HI
    iexact H1
  imod (close_one m K c 2) $$ [H2] with Z2
  · isplitr; · iexact HI
    iexact H2
  imod (close_one m K c 3) $$ [H3] with Z3
  · isplitr; · iexact HI
    iexact H3
  imod (close_one m K c 4) $$ [H4] with Z4
  · isplitr; · iexact HI
    iexact H4
  imod (close_one m K c 5) $$ [H5] with Z5
  · isplitr; · iexact HI
    iexact H5
  imod (close_one m K c 6) $$ [H6] with Z6
  · isplitr; · iexact HI
    iexact H6
  imod (close_one m K c 7) $$ [H7] with Z7
  · isplitr; · iexact HI
    iexact H7
  imod (close_one m K c 8) $$ [H8] with Z8
  · isplitr; · iexact HI
    iexact H8
  imod (close_one m K c 9) $$ [H9] with Z9
  · isplitr; · iexact HI
    iexact H9
  imod (close_one m K c 10) $$ [H10] with Z10
  · isplitr; · iexact HI
    iexact H10
  imod (close_one m K c 11) $$ [H11] with Z11
  · isplitr; · iexact HI
    iexact H11
  imod (close_one m K c 12) $$ [H12] with Z12
  · isplitr; · iexact HI
    iexact H12
  imodintro
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

/-! ## The pipeline's data -/

/-- What device `c`'s body starts from, beside its scratch buffers; -/
def start (c : Dev nD) : sProp 𝕄 := iprop(G' m c ∗ waitCreds c ∗ levAts L lv ∗ ins m c)

/-- its two scratch buffers at some contents; -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- the pipeline's state before the point, -/
def Φ₀ (c : Dev nD) : sProp 𝕄 := iprop(start m c ∗ scratch c)
/-- and after it: every semaphore at zero. -/
def Φ₁ (c : Dev nD) : sProp 𝕄 := iprop(scratch c ∗ (bigSep Finset.univ fun k : Fin 13 => semVal (kcell (c, k)) 0) ∗ locals c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))

def bodyPost (c : Dev nD) : sProp 𝕄 :=
  iprop(Φ₁ c ∗ (dats m 0 c).owesAt () t0_0.succ ∗ stg c cc0_stg0_0 (outAt m c))

/-- From the body's result to the pipeline's state after the point. -/
theorem leave (K : GSem nD τ sig → ℕ) (c : Dev nD) (f₀ : Buf (Elt F) ((c : Thread nD τ).loc cc0_scratch0))
    (f₁ : Buf (Elt F) ((c : Thread nD τ).loc cc0_scratch1)) :
    iprop((bigSep Finset.univ fun k : Fin 13 => cellInv ER (rd m) (K (kcell (c, k))) (kcell (c, k))) ∗ post m c)
      ⊢ |={Set.univ}=> bodyPost m c := by
  unfold post
  iintro ⟨HI, Ho, Hb, HS, HV, HX, HW, HL, ⟨%W, HO⟩⟩
  imod (close_all m K c) $$ [HI Hb HS HV] with HZ
  · isplitl [HI]; · iexact HI
    unfold spots
    isplitl [Hb]; · iexact Hb
    isplitl [HS]; · iexact HS
    iexact HV
  ihave HX' := (xb_join c f₀) $$ HX
  ihave HW' := (wb_join c f₁) $$ HW
  imodintro
  unfold bodyPost Φ₁ scratch Dat.owesAt Pipeline.owesWithin locals
  rw [show (dats m 0 c).owed t0_0.succ = 0 from rfl]
  isplitl [HX' HW' HZ HL]
  · isplitl [HX' HW']
    · isplitl [HX']; · iexact HX'
      iexact HW'
    isplitl [HZ]; · iexact HZ
    iexact HL
  isplitl [HO]
  · iexists W
    isplitr; · ipureintro; exact fun _ _ => Or.inl trivial
    iexact HO
  iexists (outAt m c); isplitr; · (ipureintro; rfl)
  iexact Ho

/-- The body, from what the pipeline calls it with to what it leaves. -/
theorem sound_body (c : Dev nD) : bodyPre m c ⊢ wp frame (wpE (defs₀ (F := F)) 𝒱₀ c none) Set.univ
    (cc0_body xM (Memref.isWhole_whole _) wM (Memref.isWhole_whole _) oM (Memref.isWhole_whole _)
      xbM (Memref.isWhole_whole _) wbM (Memref.isWhole_whole _) cc0_scratch2 cc0_scratch3 cc0_scratch4 cc0_scratch5) (fun _ => bodyPost m c) := by
  unfold bodyPre Φ₀ start G' scratch Dat.owesAt Pipeline.owesWithin ins spots payToks waitCreds locals
  rw [show (dats m 0 c).owed t0_0.castSucc = O₀ c from rfl]
  iintro ⟨⟨⟨⟨⟨%K, #HI, #HM, #HC, ⟨Hb, HS, HV⟩, T1, T2, T3⟩, L0, L1, L2, L3⟩, HW, Hlv, ⟨I1, I2, I3, I4, I5, I6, I7, I8, I9, I10⟩⟩, ⟨%fx, Hx⟩, ⟨%fw, Hw⟩⟩, ⟨%W, -, HO⟩, ⟨%d, %o, -, Hout⟩⟩
  ihave Hx' := (xb_split c fx) $$ Hx
  icases Hx' with ⟨X4, X5, X2, X3, X0, X1, XL⟩
  ihave Hw' := (wb_split c fw) $$ Hw
  icases Hw' with ⟨W0, W1, W2⟩
  iapply (body_run m K c W fx fx fx fx fx fx fx fw fw fw o fun _ => bodyPost m c)
  isplitr; · iexact HI
  isplitr; · iexact HM
  isplitl [Hb]; · iexact Hb
  isplitl [HS]; · iexact HS
  isplitl [HV]; · iexact HV
  isplitl [T1]; · iexact T1
  isplitl [T2]; · iexact T2
  isplitl [T3]; · iexact T3
  isplitl [HW]; · iexact HW
  isplitl [HO]; · iexact HO
  isplitl [Hlv]; · iexact Hlv
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [X4]; · iexact X4
  isplitl [X5]; · iexact X5
  isplitl [X2]; · iexact X2
  isplitl [X3]; · iexact X3
  isplitl [X0]; · iexact X0
  isplitl [X1]; · iexact X1
  isplitl [XL]; · iexact XL
  isplitl [W0]; · iexact W0
  isplitl [W1]; · iexact W1
  isplitl [W2]; · iexact W2
  isplitl [Hout]; · iexact Hout
  isplitl [L0]; · iexact L0
  isplitl [L1]; · iexact L1
  isplitl [L2]; · iexact L2
  isplitl [L3]; · iexact L3
  iintro Hp
  iapply (leave m K c fx fw)
  isplitr; · iexact HC
  iexact Hp

set_option maxRecDepth 40000 in
/-- The pipeline's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## The run -/

set_option backward.proofsInPublic true in
theorem ownSemFacts : Pipeline.OwnSemFacts cfg0.spec osem := by decide

theorem share_eq (c : Dev nD) (w : Fin cfg0.W) : (dats m 0 c).share w = fullShare := by unfold Dat.share; split <;> rfl

/-- What each device starts from, out of what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  iintro ⟨HA, Hlev, Hcr, -, HG⟩
  ihave Hc := (creds (F := F) c) $$ Hcr
  ihave HA' := (ins_intro m c) $$ HA
  icases HA' with ⟨Hi, Hk⟩
  imodintro
  unfold start
  isplitr [Hk]
  · isplitl [HG]; · iexact HG
    isplitl [Hc]; · iexact Hc
    isplitl [Hlev]; · iexact Hlev
    iexact Hi
  iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  iintro ⟨Hr, Hz⟩
  ihave Hz' := (sems0_join c) $$ Hz
  icases Hz' with ⟨Ho, Hu⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_of_above (by
      have h0 : lv ((c : Thread nD τ), SemLoc.dma (((cfgs 0).win w).sem s)) () = 0 := by fin_cases w; fin_cases s; rfl
      rcases t with ⟨_ | _, ht⟩
      · exact above_O₀ _ (le_of_eq h0) c
      · exact Above.zero _)

/-- The result array after the run. -/
theorem flushed_eq (c : Dev nD) (t : Fin cfg0.N) :
    (dats m 0 c).flushed 0 t = ((cfg0.win 0).blk t).view.read (Elt F) (outAt m c) := by
  obtain rfl := fin_N0 t
  have ha : (dats m 0 c).after 0 t0_0 = outAt m c := by dsimp only [dats]
  unfold Pipeline.Dat.flushed
  rw [ha]
  have hz : ∀ a, win0_0.index t0_0 a = 0 := by decide +kernel
  funext j
  refine congrArg (outAt m c) (funext fun a => Fin.ext ?_)
  exact (Window.rect_emb_val_of_index_zero win0_0 t0_0 a (hz a) j).symm

theorem mem_blk (t : Fin cfg0.N) (i : S1024x8192.Idx) : i ∈ ((cfg0.win 0).blk t).view.set := by
  show i ∈ ((View.whole main_v1).slice (win0_0.rect t)).set
  rw [View.set_slice_whole, Rect.mem_set_unit]
  have h0 : (i 0 : Nat) < 1024 := (i 0).isLt
  have h1 : (i 1 : Nat) < 8192 := (i 1).isLt
  have e : win0_0.index t 0 * win0_0.size 0 = 0 ∧ win0_0.xsize (grid0.coords t) 0 = 1024
      ∧ win0_0.index t 1 * win0_0.size 1 = 0 ∧ win0_0.xsize (grid0.coords t) 1 = 8192 := by
    rcases fin_N0 t with rfl; decide +kernel
  intro a
  match a with
  | ⟨0, _⟩ => show win0_0.index t 0 * win0_0.size 0 ≤ (i 0 : Nat) ∧ (i 0 : Nat) < win0_0.index t 0 * win0_0.size 0 + win0_0.xsize (grid0.coords t) 0
              rw [e.1, e.2.1]; omega
  | ⟨1, _⟩ => show win0_0.index t 1 * win0_0.size 1 ≤ (i 1 : Nat) ∧ (i 1 : Nat) < win0_0.index t 1 * win0_0.size 1 + win0_0.xsize (grid0.coords t) 1
              rw [e.2.2.1, e.2.2.2]; omega

theorem final_out (c : Dev nD) : (dats m 0 c).arrAt 0 cfg0.N = outAt m c :=
  (dats m 0 c).arrAt_eq_of_cover 0 (outAt m c) (fun t _ => flushed_eq m c t) fun i => ⟨t0_0, flush0_0 _, mem_blk t0_0 i⟩

omit [FloatOps F] in
/-- The exchange's launch state, handed to the devices. -/
theorem deal : (BI.own (embR ((initOf cellsX toksX, (1 : Counters)) : UX × Counters)) : sProp 𝕄) ⊢ bigSep Finset.univ fun c : Dev nD => G c := by
  rw [show (bigSep Finset.univ fun c : Dev nD => (G c : sProp 𝕄)) = iprop(G 0 ∗ G 1 ∗ G 2 ∗ G 3) from
    bigSep_univ_eq_bigSepL [(0 : Dev nD), 1, 2, 3] (by decide) (by decide) _]
  rw [show (G 0 : sProp 𝕄) = BI.own (ER (initOf cellsX toksX)) from if_pos rfl, show (G 1 : sProp 𝕄) = iprop(emp) from if_neg (by decide),
    show (G 2 : sProp 𝕄) = iprop(emp) from if_neg (by decide), show (G 3 : sProp 𝕄) = iprop(emp) from if_neg (by decide)]
  iintro H
  ihave H' := (own_pair_emb _ _ _) $$ H
  icases H' with ⟨H1, -⟩
  isplitl [H1]; · unfold ER; iexact H1
  isplitr; · iempintro
  isplitr; · iempintro
  iempintro

/-- What a final state holds: each device's result, its arguments unchanged, and no credit on any semaphore. -/
def RunPost (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 40000 in
/-- On the mesh of four devices, from any memory with zero counters: every weakly fair execution of the program ends, and
    every final state is as `RunPost` says. -/
theorem run_main : θ_run defs (onTc (τ := τ) (main (F := F))) ⟨m, fun _ => 0, ρ⟩ (RunPost m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := by
      unfold u₀
      iintro Hu
      ihave H := (ownU_pair _ _) $$ Hu
      icases H with ⟨HP, HX⟩
      ihave HG := (deal (F := F)) $$ HX
      imodintro
      isplitl [HP]; · iexact HP
      iexact HG)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => (s.mem ((c : Thread nD τ).loc main_arg0) = m ((c : Thread nD τ).loc main_arg0)
      ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold kept
      iintro ⟨Hu, ⟨H0, H1⟩, HSI⟩
      icombine HSI H0 gives %h0
      icombine HSI H1 gives %h1
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ h0, Buf.eq_of_forall_mem_univ h1⟩, hz⟩
      iexact HSI)
    (hQ := fun _ h hs => ⟨fun c => ⟨((h c).1 0).trans (final_out m c), (h c).2.2.1⟩, sem_eq_zero hs fun c => (h c).2.2.2⟩)

end Cert.KernelIdealProof

end
-- ==== Proof.ValueKernelIdeal.lean ====
/-
  The value of the result over exact arithmetic: device `c`'s result is its rows of the product of the whole `x` and `w`.
  Its eight block products run over the eight blocks of 512 columns of `x`, in an order of its own, and the sum over all
  4096 columns is the sum over the blocks of the sums within them.
-/
module

public import proofs.«01_k».proof.Proof.ColKernelIdeal
public import proofs.«01_k».proof.ReferenceIdeal
public import proofs.«01_k».proof.Proof.Gen.ReferenceIdeal
public import Idealize.ShloMosaic.Lib.Pointwise
public import Idealize.ShloMosaic.Lib.ValueIdx
public import Idealize.ShloMosaic.Lib.Layout
public import Idealize.ShloMosaic.PureOps.Ideal.Laws

@[expose] public section

noncomputable section

namespace Cert.KernelIdealProof

open Cert.KernelIdeal Cert.KernelIdeal.Gen

open Idealize.ShloMosaic hiding ix2 eq_ix2
open Idealize.ShloMosaic.TcCoe
open Idealize.ShloMosaic.ValueIdx

/-! ## One block product -/

/-- One block product at an index. -/
theorem dotv_at (a : FVec Ideal S1024x512 .f32) (b : FVec Ideal S512x2048 .f32) (p : Fin 1024) (q : Fin 2048) :
    dotv a b (ix2 p q) = ∑ k : Fin 512, a (ix2 p k) * b (ix2 k q) := by
  refine (Ideal.matmul_constant_zero_apply dot_S1024x512_S512x2048_S1024x2048_1_0_0_1_n_n none a b (ix2 p q)).trans ?_
  rw [DotDims.sum_contr₁ _ (a := 1) (K := 512) rfl rfl]
  refine Finset.sum_congr rfl fun k _ => ?_
  refine congrArg₂ (· * ·) (congrArg a (funext fun x => Fin.ext ?_)) (congrArg b (funext fun x => Fin.ext ?_))
  · match x with
    | ⟨0, _⟩ => rfl
    | ⟨1, _⟩ => rfl
  · match x with
    | ⟨0, _⟩ => rfl
    | ⟨1, _⟩ => rfl

/-! ## The blocks of `x` and the tiles of `w`, by coordinates -/

section Blocks

variable {F : FTy → Type} [FloatOps F] (m : (ℓ : Loc nD τ sig) → Buf (Elt F) ℓ)

/-- A half block of `x` read at an index. -/
theorem read_half (e c : Dev nD) (k : Fin 2) (off : Fin 2 → ℕ) (hoff : off = ![1024 * c.val, 512 * k.val])
    (inb : ∀ a, off a + S1024x512.size a ≤ S4096x1024.size a) (p : Fin 1024) (q : Fin 512) (h0 h1) :
    (xM.slice (Rect.unit (s := S4096x1024) off S1024x512.size inb) (fun _ => rfl)).view.read (Elt F) (m ((e : Thread nD τ).loc main_arg0)) (ix2 p q)
      = m ((e : Thread nD τ).loc main_arg0) (ix2 (n0 := 4096) (n1 := 1024) ⟨1024 * c.val + p.val, h0⟩ ⟨512 * k.val + q.val, h1⟩) := by
  subst hoff
  refine congrArg (m ((e : Thread nD τ).loc main_arg0)) (funext fun a => Fin.ext ?_)
  match a with
  | ⟨0, _⟩ => show 1024 * c.val + 1 * p.val = 1024 * c.val + p.val; omega
  | ⟨1, _⟩ => show 512 * k.val + 1 * q.val = 512 * k.val + q.val; omega

/-- The own rows read at an index. -/
theorem read_own (c : Dev nD) (p : Fin 1024) (q : Fin 1024) (h0) :
    xdL m c (ix2 p q) = m ((c : Thread nD τ).loc main_arg0) (ix2 (n0 := 4096) (n1 := 1024) ⟨1024 * c.val + p.val, h0⟩ q) := by
  refine congrArg (m ((c : Thread nD τ).loc main_arg0)) (funext fun a => Fin.ext ?_)
  match a with
  | ⟨0, _⟩ =>
    show k0_off1 c 0 + 1 * p.val = 1024 * c.val + p.val
    rw [k0_off1_eq]; show 1024 * c.val + 1 * p.val = _; omega
  | ⟨1, _⟩ =>
    show k0_off1 c 1 + 1 * q.val = q.val
    rw [k0_off1_eq]; show 0 + 1 * q.val = _; omega

/-- A tile of `w` read at an index. -/
theorem read_tile (c : Dev nD) (nt : Fin 4) (si : Fin 8) (k : Fin 512) (q : Fin 2048) (h0 h1) :
    wt m c (wOff c nt si) (wOff_inb c nt si) (ix2 k q)
      = m ((c : Thread nD τ).loc main_arg1) (ix2 (n0 := 4096) (n1 := 8192) ⟨1024 * (src c si).val + 512 * (half si).val + k.val, h0⟩ ⟨2048 * nt.val + q.val, h1⟩) := by
  unfold wt
  refine congrArg (m ((c : Thread nD τ).loc main_arg1)) (funext fun a => Fin.ext ?_)
  match a with
  | ⟨0, _⟩ =>
    show wOff c nt si 0 + 1 * k.val = 1024 * (src c si).val + 512 * (half si).val + k.val
    rw [show wOff c nt si 0 = 1024 * (src c si).val + 512 * (half si).val from congrFun (wOff_eq c nt si) 0]; omega
  | ⟨1, _⟩ =>
    show wOff c nt si 1 + 1 * q.val = 2048 * nt.val + q.val
    rw [show wOff c nt si 1 = 2048 * nt.val from congrFun (wOff_eq c nt si) 1]; omega

/-- Where the pieces device `c` receives lie in their senders' columns. -/
theorem off_xs (c : Dev nD) :
    k0_off2 (pr c 2) 1#32 = ![1024 * c.val, 512 * (0 : Fin 2).val] ∧ k0_off2 (pr c 0) 3#32 = ![1024 * c.val, 512 * (0 : Fin 2).val]
    ∧ k0_off3 (pr c 2) 1#32 = ![1024 * c.val, 512 * (1 : Fin 2).val] ∧ k0_off3 (pr c 0) 3#32 = ![1024 * c.val, 512 * (1 : Fin 2).val]
    ∧ k0_off2 (pr c 1) 2#32 = ![1024 * c.val, 512 * (0 : Fin 2).val] ∧ k0_off3 (pr c 1) 2#32 = ![1024 * c.val, 512 * (1 : Fin 2).val] := by
  revert c; decide +kernel

theorem row_lt (c : Dev nD) (p : Fin 1024) : 1024 * c.val + p.val < 4096 := by have : c.val < 4 := c.isLt; have := p.isLt; omega
theorem half_lt (k : Fin 2) (q : Fin 512) : 512 * k.val + q.val < 1024 := by have := k.isLt; have := q.isLt; omega

/-- The block of `x` of step `si` read at an index: the device's rows, of the columns of the device it is from. -/
theorem xp_at (c : Dev nD) (si : Fin 8) (p : Fin 1024) (q : Fin 512) :
    xp m c si (ix2 p q) = m ((src c si : Thread nD τ).loc main_arg0)
      (ix2 (n0 := 4096) (n1 := 1024) ⟨1024 * c.val + p.val, row_lt c p⟩ ⟨512 * (half si).val + q.val, half_lt (half si) q⟩) := by
  obtain ⟨h2, h3, h4, h5, h6, h7⟩ := off_xs c
  match si with
  | 0 => exact read_own m c p ⟨512 * (0 : Fin 2).val + q.val, half_lt 0 q⟩ (row_lt c p)
  | 1 => exact read_own m c p ⟨512 * (1 : Fin 2).val + q.val, half_lt 1 q⟩ (row_lt c p)
  | 2 => exact read_half m (pr c 2) c 0 _ h2 _ p q _ _
  | 3 => exact read_half m (pr c 0) c 0 _ h3 _ p q _ _
  | 4 => exact read_half m (pr c 2) c 1 _ h4 _ p q _ _
  | 5 => exact read_half m (pr c 0) c 1 _ h5 _ p q _ _
  | 6 => exact read_half m (pr c 1) c 0 _ h6 _ p q _ _
  | 7 => exact read_half m (pr c 1) c 1 _ h7 _ p q _ _

end Blocks

/-! ## The sum -/

/-- The block of 512 columns of `x` step `si` is on. -/
def blk (c : Dev nD) (si : Fin 8) : Fin 8 := ⟨2 * (src c si).val + (half si).val, by
  have : (src c si).val < 4 := (src c si).isLt; have := (half si).isLt; omega⟩

/-- Each block is met once. -/
theorem blk_bijective (c : Dev nD) : Function.Bijective (blk c) := by revert c; decide

theorem col_lt (b : Fin 8) (t : Fin 512) : b.val * 512 + t.val < 4096 := by have := b.isLt; have := t.isLt; omega

/-- The eight products added in order are their sum. -/
theorem fold8_at (x : Fin 8 → FVec Ideal S1024x512 .f32) (w : Fin 8 → FVec Ideal S512x2048 .f32) (j : S1024x2048.Idx) :
    fold8 x w j = ∑ si : Fin 8, dotv (x si) (w si) j := by
  rw [Fin.sum_univ_eight]
  rfl

variable (m : (ℓ : Loc nD τ sig) → Buf (Elt Ideal) ℓ) (X : FVec Ideal Cert.ReferenceIdeal.S4096x4096 .f32) (W : FVec Ideal S4096x8192 .f32)

/-- Device `c`'s result at an index, when the devices hold the column blocks of `X` and copies of `W`: the row of `X`
    times the column of `W`. -/
theorem outAt_at (hX : ∀ e : Dev nD, m ((e : Thread nD τ).loc main_arg0) = Layout.block ⟨2, ![4096, 1024]⟩ ⟨2, ![4096, 4096]⟩ 1 4 e X)
    (hW : ∀ e : Dev nD, m ((e : Thread nD τ).loc main_arg1) = W) (c : Dev nD) (p : Fin 1024) (q : Fin 8192) :
    outAt m c (ix2 p q) = ∑ k : Fin 4096, X (ix2 (n0 := 4096) (n1 := 4096) ⟨1024 * c.val + p.val, row_lt c p⟩ k) * W (ix2 (n0 := 4096) (n1 := 8192) k q) := by
  have hq := q.isLt
  have hn : q.val / 2048 < 4 := by omega
  show colv m c ⟨q.val / 2048, hn⟩ (ix2 p ⟨q.val % 2048, Nat.mod_lt _ (by decide)⟩) = _
  unfold colv
  rw [fold8_at, Fin.sum_univ_tiles 8 512 rfl]
  rw [← (blk_bijective c).sum_comp fun b : Fin 8 => ∑ t : Fin 512, X (ix2 (n0 := 4096) (n1 := 4096) ⟨1024 * c.val + p.val, row_lt c p⟩ ⟨b.val * 512 + t.val, col_lt b t⟩)
    * W (ix2 (n0 := 4096) (n1 := 8192) ⟨b.val * 512 + t.val, col_lt b t⟩ q)]
  refine Finset.sum_congr rfl fun si _ => ?_
  rw [dotv_at]
  refine Finset.sum_congr rfl fun k _ => ?_
  have hs : (src c si).val < 4 := (src c si).isLt
  have hh := (half si).isLt
  have hk := k.isLt
  rw [xp_at, read_tile m c ⟨q.val / 2048, hn⟩ si k ⟨q.val % 2048, Nat.mod_lt _ (by decide)⟩ (by omega) (by show 2048 * (q.val / 2048) + q.val % 2048 < 8192; omega), hX, hW]
  refine congrArg₂ (· * ·) ?_ ?_
  · refine congrArg X (funext fun a => Fin.ext ?_)
    match a with
    | ⟨0, _⟩ => rfl
    | ⟨1, _⟩ =>
      show (src c si).val * 1024 + (512 * (half si).val + k.val) = (2 * (src c si).val + (half si).val) * 512 + k.val
      omega
  · refine congrArg W (funext fun a => Fin.ext ?_)
    match a with
    | ⟨0, _⟩ =>
      show 1024 * (src c si).val + 512 * (half si).val + k.val = (2 * (src c si).val + (half si).val) * 512 + k.val
      omega
    | ⟨1, _⟩ =>
      show 2048 * (q.val / 2048) + q.val % 2048 = q.val
      omega

/-- The reference's product of the two whole arrays. -/
abbrev prod : FVec Ideal S4096x8192 .f32 :=
  Host.dotGeneral Cert.ReferenceIdeal.dot_S4096x4096_S4096x8192_S4096x8192_1_0_0_1_n_n none X W

/-- The product at an index. -/
theorem prod_at (p : Fin 4096) (q : Fin 8192) :
    prod X W (ix2 p q) = ∑ k : Fin 4096, X (ix2 (n0 := 4096) (n1 := 4096) p k) * W (ix2 (n0 := 4096) (n1 := 8192) k q) := by
  refine (zero_add (∑ k : Cert.ReferenceIdeal.dot_S4096x4096_S4096x8192_S4096x8192_1_0_0_1_n_n.contr.Idx,
    X (Cert.ReferenceIdeal.dot_S4096x4096_S4096x8192_S4096x8192_1_0_0_1_n_n.lhsIdx (ix2 p q) k)
      * W (Cert.ReferenceIdeal.dot_S4096x4096_S4096x8192_S4096x8192_1_0_0_1_n_n.rhsIdx (ix2 p q) k))).trans ?_
  rw [DotDims.sum_contr₁ _ (a := 1) (K := 4096) rfl rfl]
  refine Finset.sum_congr rfl fun k _ => ?_
  refine congrArg₂ (· * ·) (congrArg X (funext fun x => Fin.ext ?_)) (congrArg W (funext fun x => Fin.ext ?_))
  · match x with
    | ⟨0, _⟩ => rfl
    | ⟨1, _⟩ => rfl
  · match x with
    | ⟨0, _⟩ => rfl
    | ⟨1, _⟩ => rfl

/-- Device `c`'s result is its rows of the product. -/
theorem outAt_eq (hX : ∀ e : Dev nD, m ((e : Thread nD τ).loc main_arg0) = Layout.block ⟨2, ![4096, 1024]⟩ ⟨2, ![4096, 4096]⟩ 1 4 e X)
    (hW : ∀ e : Dev nD, m ((e : Thread nD τ).loc main_arg1) = W) (c : Dev nD) :
    outAt m c = Layout.block ⟨2, ![1024, 8192]⟩ ⟨2, ![4096, 8192]⟩ 0 4 c (prod X W) := by
  funext i
  rw [Layout.block_apply]
  refine ((congrArg (outAt m c) (eq_ix2 i)).trans (outAt_at m X W hX hW c (i 0) (i 1))).trans ?_
  refine (prod_at X W ⟨1024 * c.val + (i 0).val, row_lt c (i 0)⟩ (i 1)).symm.trans (congrArg (prod X W) (funext fun a => Fin.ext ?_))
  match a with
  | ⟨0, _⟩ => show 1024 * c.val + (i 0).val = c.val * 1024 + (i 0).val; omega
  | ⟨1, _⟩ => rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.RunKernelIdeal
public import proofs.«01_k».proof.Proof.ValueKernelIdeal
public import Idealize.ShloMosaic.Adequacy
public import Idealize.ShloMosaic.Init

@[expose] public section

noncomputable section

namespace Cert.Proof

open Idealize.ShloMosaic Idealize.SL.Sem

/-- The kernel at the machine's floats runs, leaves its arguments unchanged and every semaphore at zero. -/
theorem frame_kernel : Cert.quiescent_Kernel := fun m g _ =>
  (θ_run _ _ _).mono (fun _ h => ⟨fun c => (h.1 c).2, h.2⟩) (Cert.KernelProof.run_main m g)

/-- The kernel at exact arithmetic runs, leaves its arguments unchanged and every semaphore at zero. -/
theorem frame_kernelIdeal : Cert.quiescent_KernelIdeal := fun m g _ =>
  (θ_run _ _ _).mono (fun _ h => ⟨fun c => (h.1 c).2, h.2⟩) (Cert.KernelIdealProof.run_main m g)

/-- The reference has no semaphore, so its counters are zero in any state. -/
theorem reference_sem (f : GSem Cert.ReferenceIdeal.nD Cert.ReferenceIdeal.τ Cert.ReferenceIdeal.sig → Int) : f = fun _ => 0 :=
  funext fun g => match g with
    | ⟨_, .reg s⟩ => Fin.elim0 s
    | ⟨_, .dma s⟩ => Fin.elim0 s

/-- The reference runs, leaves its arguments unchanged and every semaphore at zero. -/
theorem frame_referenceIdeal : Cert.quiescent_ReferenceIdeal := fun m g _ =>
  (θ_run _ _ _).mono (fun r h => ⟨fun c => (h c).2, reference_sem r.2.sem⟩) (Cert.ReferenceIdeal.Value.run m g)

/-- At exact arithmetic each device's result is its rows of the reference's product. -/
theorem value : Cert.algebraic_KernelIdeal_ReferenceIdeal := fun m g m' g' _ hm =>
  ⟨_, (θ_run _ _ _).mono (fun _ h c => ⟨(h.1 c).1.trans (Cert.KernelIdealProof.outAt_eq m _ _ (fun e => (hm e).1) (fun e => (hm e).2) c), (h.1 c).2⟩)
      (Cert.KernelIdealProof.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
